-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_bounded [hPre_finite_and_bounded : Cert.Pre_finite_and_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_bounded [hPre_finite_and_bounded : Cert.Pre_finite_and_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_bounded [hKernelIdeal : Cert.KernelIdeal.Facts] [hPre_finite_and_bounded : Cert.Pre_finite_and_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_bounded [hReferenceIdeal : Cert.ReferenceIdeal.Facts] [hPre_finite_and_bounded : Cert.Pre_finite_and_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_bounded [hKernelIdeal : Cert.KernelIdeal.Facts] [hReferenceIdeal : Cert.ReferenceIdeal.Facts] [hPre_finite_and_bounded : Cert.Pre_finite_and_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_bounded : Cert.Pre_finite_and_bounded.Facts),
    quiescent_Kernel (hKernel := hKernel)
    ∧ quiescent_KernelIdeal (hKernelIdeal := hKernelIdeal)
    ∧ quiescent_KernelIdeal_pre_finite_and_bounded (hKernelIdeal := hKernelIdeal) (hPre_finite_and_bounded := hPre_finite_and_bounded)
    ∧ quiescent_ReferenceIdeal (hReferenceIdeal := hReferenceIdeal)
    ∧ quiescent_ReferenceIdeal_pre_finite_and_bounded (hReferenceIdeal := hReferenceIdeal) (hPre_finite_and_bounded := hPre_finite_and_bounded)
    ∧ preserves_Kernel_KernelIdeal
    ∧ algebraic_KernelIdeal_ReferenceIdeal_pre_finite_and_bounded (hKernelIdeal := hKernelIdeal) (hReferenceIdeal := hReferenceIdeal) (hPre_finite_and_bounded := hPre_finite_and_bounded)
-- ==== Pre_finite_and_bounded.lean ====
abbrev S8x32x32x384 : Shape := ⟨4, ![8, 32, 32, 384]⟩
abbrev S384 : Shape := ⟨1, ![384]⟩
abbrev S768x384 : Shape := ⟨2, ![768, 384]⟩
abbrev S768 : Shape := ⟨1, ![768]⟩
abbrev S4 : Shape := ⟨1, ![4]⟩
abbrev S_ : Shape := ⟨0, ![]⟩

class Facts : Prop where
  bcast_S_S8x32x32x384 : S_.BroadcastsInDim S8x32x32x384 (![] : Fin 0 → Fin S8x32x32x384.rank)
  reducesTo_S8x32x32x384_S_d0_1_2_3 : S8x32x32x384.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S4 : S_.BroadcastsInDim S4 (![] : Fin 0 → Fin S4.rank)
  reducesTo_S4_S_d0 : S4.ReducesTo [0] S_
  bcast_S_S384 : S_.BroadcastsInDim S384 (![] : Fin 0 → Fin S384.rank)
  reducesTo_S384_S_d0 : S384.ReducesTo [0] S_

variable [Facts]

def fn_part1 {F : FTy → Type} [FloatOps F] (main_arg2 : FVec F S384 .f32) (main_arg3 : FVec F S384 .f32) (main_arg8 : FVec F S4 .f32) (main_v3 : IVec S_ 1) (main_v7 : IVec S_ 1) (main_v11 : IVec S_ 1) (main_v15 : IVec S_ 1) : IVec S_ 1 :=
  let main_v16 : FVec F S4 .f32 := Host.absf main_arg8
  let main_cst_6 : FVec F S_ .f32 := constant S_ .f32 0x7F800000#32
  let main_v17 : FVec F S4 .f32 := broadcastInDim S4 ![] bcast_S_S4 main_cst_6
  let main_v18 : IVec S4 1 := cmpf .olt main_v16 main_v17
  let main_c_7 : IVec S_ 1 := constantI S_ 1 1#1
  let main_v19 : IVec S_ 1 := (fun x v => Host.reduce IntOp.andi x v reducesTo_S4_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  let main_v24 : FVec F S384 .f32 := Host.absf main_arg2
  let main_cst_8 : FVec F S_ .f32 := constant S_ .f32 0x7CF0BDC2#32
  let main_v25 : FVec F S384 .f32 := broadcastInDim S384 ![] bcast_S_S384 main_cst_8
  let main_v26 : IVec S384 1 := cmpf .ole main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg3
  let main_cst_10 : FVec F S_ .f32 := constant S_ .f32 0x7CF0BDC2#32
  let main_v30 : FVec F S384 .f32 := broadcastInDim S384 ![] bcast_S_S384 main_cst_10
  let main_v31 : IVec S384 1 := cmpf .ole main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S8x32x32x384 .f32) (main_arg1 : FVec F S8x32x32x384 .f32) (main_arg2 : FVec F S384 .f32) (main_arg3 : FVec F S384 .f32) (main_arg4 : FVec F S768x384 .f32) (main_arg5 : FVec F S768 .f32) (main_arg6 : FVec F S768 .f32) (main_arg7 : FVec F S768 .f32) (main_arg8 : FVec F S4 .f32) : IVec S_ 1 :=
  let main_v0 : FVec F S8x32x32x384 .f32 := Host.absf main_arg0
  let main_cst : FVec F S_ .f32 := constant S_ .f32 0x7F800000#32
  let main_v1 : FVec F S8x32x32x384 .f32 := broadcastInDim S8x32x32x384 ![] bcast_S_S8x32x32x384 main_cst
  let main_v2 : IVec S8x32x32x384 1 := cmpf .olt main_v0 main_v1
  let main_c : IVec S_ 1 := constantI S_ 1 1#1
  let main_v3 : IVec S_ 1 := (fun x v => Host.reduce IntOp.andi x v reducesTo_S8x32x32x384_S_d0_1_2_3 h_S_) main_v2 main_c
  let main_v4 : FVec F S8x32x32x384 .f32 := Host.absf main_arg1
  let main_cst_0 : FVec F S_ .f32 := constant S_ .f32 0x7F800000#32
  let main_v5 : FVec F S8x32x32x384 .f32 := broadcastInDim S8x32x32x384 ![] bcast_S_S8x32x32x384 main_cst_0
  let main_v6 : IVec S8x32x32x384 1 := cmpf .olt main_v4 main_v5
  let main_c_1 : IVec S_ 1 := constantI S_ 1 1#1
  let main_v7 : IVec S_ 1 := (fun x v => Host.reduce IntOp.andi x v reducesTo_S8x32x32x384_S_d0_1_2_3 h_S_) main_v6 main_c_1
  let main_v8 : FVec F S768x384 .f32 := Host.absf main_arg4
  let main_cst_2 : FVec F S_ .f32 := constant S_ .f32 0x7F800000#32
  let main_v9 : FVec F S768x384 .f32 := broadcastInDim S768x384 ![] bcast_S_S768x384 main_cst_2
  let main_v10 : IVec S768x384 1 := cmpf .olt main_v8 main_v9
  let main_c_3 : IVec S_ 1 := constantI S_ 1 1#1
  let main_v11 : IVec S_ 1 := (fun x v => Host.reduce IntOp.andi x v reducesTo_S768x384_S_d0_1 h_S_) main_v10 main_c_3
  let main_v12 : FVec F S768 .f32 := Host.absf main_arg5
  let main_cst_4 : FVec F S_ .f32 := constant S_ .f32 0x7F800000#32
  let main_v13 : FVec F S768 .f32 := broadcastInDim S768 ![] bcast_S_S768 main_cst_4
  let main_v14 : IVec S768 1 := cmpf .olt main_v12 main_v13
  let main_c_5 : IVec S_ 1 := constantI S_ 1 1#1
  let main_v15 : IVec S_ 1 := (fun x v => Host.reduce IntOp.andi x v reducesTo_S768_S_d0 h_S_) main_v14 main_c_5
  fn_part1 (F := F) main_arg2 main_arg3 main_arg8 main_v3 main_v7 main_v11 main_v15
-- ==== Kernel.lean ====
abbrev S8x32x32x384 : Shape := ⟨4, ![8, 32, 32, 384]⟩
abbrev S384 : Shape := ⟨1, ![384]⟩
abbrev S768x384 : Shape := ⟨2, ![768, 384]⟩
abbrev S768 : Shape := ⟨1, ![768]⟩
abbrev S4 : Shape := ⟨1, ![4]⟩
abbrev S1x384 : Shape := ⟨2, ![1, 384]⟩
abbrev S768x1 : Shape := ⟨2, ![768, 1]⟩
abbrev S8x768x1024 : Shape := ⟨3, ![8, 768, 1024]⟩
abbrev S1x32x32x384 : Shape := ⟨4, ![1, 32, 32, 384]⟩
abbrev S1x768x1024 : Shape := ⟨3, ![1, 768, 1024]⟩
abbrev S1024x384 : Shape := ⟨2, ![1024, 384]⟩
abbrev S1024 : Shape := ⟨1, ![1024]⟩
abbrev S1024x1 : Shape := ⟨2, ![1024, 1]⟩
abbrev S384x384 : Shape := ⟨2, ![384, 384]⟩
abbrev S384x1 : Shape := ⟨2, ![384, 1]⟩
abbrev S1x384x384 : Shape := ⟨3, ![1, 384, 384]⟩
abbrev S4x1x1 : Shape := ⟨3, ![4, 1, 1]⟩
abbrev S1x384x1 : Shape := ⟨3, ![1, 384, 1]⟩
abbrev S4x384x1 : Shape := ⟨3, ![4, 384, 1]⟩
abbrev S4x384x384 : Shape := ⟨3, ![4, 384, 384]⟩
abbrev S4x384 : Shape := ⟨2, ![4, 384]⟩
abbrev S1 : Shape := ⟨1, ![1]⟩
abbrev S384x1024 : Shape := ⟨2, ![384, 1024]⟩
abbrev S768x1024 : Shape := ⟨2, ![768, 1024]⟩
abbrev S1x1024 : Shape := ⟨2, ![1, 1024]⟩

abbrev nBuf : Space → Nat
  | .hbm => 15
  | .vmem => 12
  | .smem => 1
  | _ => 0

abbrev bufTy : (tb : Table) → Fin (tcTables nBuf tb) → BufTy
  | .hbm, ⟨0, _⟩ => ⟨S8x32x32x384, .f32⟩
  | .hbm, ⟨1, _⟩ => ⟨S8x32x32x384, .f32⟩
  | .hbm, ⟨2, _⟩ => ⟨S384, .f32⟩
  | .hbm, ⟨3, _⟩ => ⟨S384, .f32⟩
  | .hbm, ⟨4, _⟩ => ⟨S768x384, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S4, .f32⟩
  | .hbm, ⟨9, _⟩ => ⟨S1x384, .f32⟩
  | .hbm, ⟨10, _⟩ => ⟨S1x384, .f32⟩
  | .hbm, ⟨11, _⟩ => ⟨S768x1, .f32⟩
  | .hbm, ⟨12, _⟩ => ⟨S768x1, .f32⟩
  | .hbm, ⟨13, _⟩ => ⟨S768x1, .f32⟩
  | .hbm, ⟨14, _⟩ => ⟨S8x768x1024, .f32⟩
  | .local _ .vmem, ⟨0, _⟩ => ⟨S1x32x32x384, .f32⟩
  | .local _ .vmem, ⟨1, _⟩ => ⟨S1x32x32x384, .f32⟩
  | .local _ .vmem, ⟨2, _⟩ => ⟨S1x32x32x384, .f32⟩
  | .local _ .vmem, ⟨3, _⟩ => ⟨S1x32x32x384, .f32⟩
  | .local _ .vmem, ⟨4, _⟩ => ⟨S1x384, .f32⟩
  | .local _ .vmem, ⟨5, _⟩ => ⟨S1x384, .f32⟩
  | .local _ .vmem, ⟨6, _⟩ => ⟨S768x384, .f32⟩
  | .local _ .vmem, ⟨7, _⟩ => ⟨S768x1, .f32⟩
  | .local _ .vmem, ⟨8, _⟩ => ⟨S768x1, .f32⟩
  | .local _ .vmem, ⟨9, _⟩ => ⟨S768x1, .f32⟩
  | .local _ .vmem, ⟨10, _⟩ => ⟨S1x768x1024, .f32⟩
  | .local _ .vmem, ⟨11, _⟩ => ⟨S1x768x1024, .f32⟩
  | .local _ .smem, ⟨0, _⟩ => ⟨S4, .f32⟩
  | _, _ => ⟨S8x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x32x32x384 : Shape := ⟨4, ![8, 32, 32, 384]⟩
abbrev S384 : Shape := ⟨1, ![384]⟩
abbrev S768x384 : Shape := ⟨2, ![768, 384]⟩
abbrev S768 : Shape := ⟨1, ![768]⟩
abbrev S4 : Shape := ⟨1, ![4]⟩
abbrev S8x1024x384 : Shape := ⟨3, ![8, 1024, 384]⟩
abbrev S_ : Shape := ⟨0, ![]⟩
abbrev S8x1024 : Shape := ⟨2, ![8, 1024]⟩
abbrev S8x1024x1 : Shape := ⟨3, ![8, 1024, 1]⟩
abbrev S1x1x384 : Shape := ⟨3, ![1, 1, 384]⟩
abbrev S8x384x1024 : Shape := ⟨3, ![8, 384, 1024]⟩
abbrev S8x384 : Shape := ⟨2, ![8, 384]⟩
abbrev S8x384x1 : Shape := ⟨3, ![8, 384, 1]⟩
abbrev S8x1x1024 : Shape := ⟨3, ![8, 1, 1024]⟩
abbrev S8x384x384 : Shape := ⟨3, ![8, 384, 384]⟩
abbrev S8x384x192 : Shape := ⟨3, ![8, 384, 192]⟩
abbrev S4294967296 : Shape := ⟨1, ![4294967296]⟩
abbrev S1x1x4294967296 : Shape := ⟨3, ![1, 1, 4294967296]⟩
abbrev S8x384x4294967296 : Shape := ⟨3, ![8, 384, 4294967296]⟩
abbrev S8x384x256 : Shape := ⟨3, ![8, 384, 256]⟩
abbrev S8x384x288 : Shape := ⟨3, ![8, 384, 288]⟩
abbrev S8x384x307 : Shape := ⟨3, ![8, 384, 307]⟩
abbrev S1 : Shape := ⟨1, ![1]⟩
abbrev S8x384x32x32 : Shape := ⟨4, ![8, 384, 32, 32]⟩
abbrev S8x32x32x768 : Shape := ⟨4, ![8, 32, 32, 768]⟩
abbrev S8x768x32x32 : Shape := ⟨4, ![8, 768, 32, 32]⟩
abbrev S1x768x1x1 : Shape := ⟨4, ![1, 768, 1, 1]⟩
abbrev S8x768x1024 : Shape := ⟨3, ![8, 768, 1024]⟩
abbrev S8x1024x768 : Shape := ⟨3, ![8, 1024, 768]⟩
abbrev S1x1x768 : Shape := ⟨3, ![1, 1, 768]⟩

abbrev nBuf : Space → Nat
  | .hbm => 350
  | .vmem => 0
  | .smem => 0
  | _ => 0

abbrev hbmTy0_0 (i : Nat) : BufTy := match i % 128 with
  | 0 => ⟨S8x32x32x384, .f32⟩
  | 1 => ⟨S8x32x32x384, .f32⟩
  | 2 => ⟨S384, .f32⟩
  | 3 => ⟨S384, .f32⟩
  | 4 => ⟨S768x384, .f32⟩
  | 5 => ⟨S768, .f32⟩
  | 6 => ⟨S768, .f32⟩
  | 7 => ⟨S768, .f32⟩
  | 8 => ⟨S4, .f32⟩
  | 9 => ⟨S8x1024x384, .f32⟩
  | 10 => ⟨S8x1024x384, .f32⟩
  | 11 => ⟨S_, .f32⟩
  | 12 => ⟨S8x1024, .f32⟩
  | 13 => ⟨S8x1024x1, .f32⟩
  | 14 => ⟨S_, .f32⟩
  | 15 => ⟨S8x1024x1, .f32⟩
  | 16 => ⟨S8x1024x1, .f32⟩
  | 17 => ⟨S8x1024x384, .f32⟩
  | 18 => ⟨S8x1024x384, .f32⟩
  | 19 => ⟨S8x1024x384, .f32⟩
  | 20 => ⟨S_, .f32⟩
  | 21 => ⟨S8x1024, .f32⟩
  | 22 => ⟨S8x1024x1, .f32⟩
  | 23 => ⟨S_, .f32⟩
  | 24 => ⟨S8x1024x1, .f32⟩
  | 25 => ⟨S8x1024x1, .f32⟩
  | 26 => ⟨S8x1024x384, .f32⟩
  | 27 => ⟨S8x1024x384, .f32⟩
  | 28 => ⟨S_, .f32⟩
  | 29 => ⟨S8x1024x1, .f32⟩
  | 30 => ⟨S8x1024x1, .f32⟩
  | 31 => ⟨S8x1024x1, .f32⟩
  | 32 => ⟨S8x1024x384, .f32⟩
  | 33 => ⟨S8x1024x384, .f32⟩
  | 34 => ⟨S1x1x384, .f32⟩
  | 35 => ⟨S8x1024x384, .f32⟩
  | 36 => ⟨S8x1024x384, .f32⟩
  | 37 => ⟨S1x1x384, .f32⟩
  | 38 => ⟨S8x1024x384, .f32⟩
  | 39 => ⟨S8x1024x384, .f32⟩
  | 40 => ⟨S_, .f32⟩
  | 41 => ⟨S8x1024, .f32⟩
  | 42 => ⟨S8x1024x1, .f32⟩
  | 43 => ⟨S_, .f32⟩
  | 44 => ⟨S8x1024x1, .f32⟩
  | 45 => ⟨S8x1024x1, .f32⟩
  | 46 => ⟨S8x1024x384, .f32⟩
  | 47 => ⟨S8x1024x384, .f32⟩
  | 48 => ⟨S8x1024x384, .f32⟩
  | 49 => ⟨S_, .f32⟩
  | 50 => ⟨S8x1024, .f32⟩
  | 51 => ⟨S8x1024x1, .f32⟩
  | 52 => ⟨S_, .f32⟩
  | 53 => ⟨S8x1024x1, .f32⟩
  | 54 => ⟨S8x1024x1, .f32⟩
  | 55 => ⟨S8x1024x384, .f32⟩
  | 56 => ⟨S8x1024x384, .f32⟩
  | 57 => ⟨S_, .f32⟩
  | 58 => ⟨S8x1024x1, .f32⟩
  | 59 => ⟨S8x1024x1, .f32⟩
  | 60 => ⟨S8x1024x1, .f32⟩
  | 61 => ⟨S8x1024x384, .f32⟩
  | 62 => ⟨S8x1024x384, .f32⟩
  | 63 => ⟨S1x1x384, .f32⟩
  | 64 => ⟨S8x1024x384, .f32⟩
  | 65 => ⟨S8x1024x384, .f32⟩
  | 66 => ⟨S1x1x384, .f32⟩
  | 67 => ⟨S8x1024x384, .f32⟩
  | 68 => ⟨S8x1024x384, .f32⟩
  | 69 => ⟨S8x384x1024, .f32⟩
  | 70 => ⟨S8x384x1024, .f32⟩
  | 71 => ⟨S8x384x1024, .f32⟩
  | 72 => ⟨S_, .f32⟩
  | 73 => ⟨S8x384, .f32⟩
  | 74 => ⟨S_, .f32⟩
  | 75 => ⟨S8x384, .f32⟩
  | 76 => ⟨S8x384, .f32⟩
  | 77 => ⟨S8x384x1, .f32⟩
  | 78 => ⟨S8x384x1024, .f32⟩
  | 79 => ⟨S8x384x1024, .f32⟩
  | 80 => ⟨S8x384x1024, .f32⟩
  | 81 => ⟨S_, .f32⟩
  | 82 => ⟨S8x384, .f32⟩
  | 83 => ⟨S8x384x1, .f32⟩
  | 84 => ⟨S8x384x1024, .f32⟩
  | 85 => ⟨S8x384x1024, .f32⟩
  | 86 => ⟨S_, .f32⟩
  | 87 => ⟨S8x1024, .f32⟩
  | 88 => ⟨S_, .f32⟩
  | 89 => ⟨S8x1024, .f32⟩
  | 90 => ⟨S8x1024, .f32⟩
  | 91 => ⟨S8x1x1024, .f32⟩
  | 92 => ⟨S8x384x1024, .f32⟩
  | 93 => ⟨S8x384x1024, .f32⟩
  | 94 => ⟨S8x384x1024, .f32⟩
  | 95 => ⟨S_, .f32⟩
  | 96 => ⟨S8x1024, .f32⟩
  | 97 => ⟨S8x1x1024, .f32⟩
  | 98 => ⟨S8x384x1024, .f32⟩
  | 99 => ⟨S8x384x1024, .f32⟩
  | 100 => ⟨S8x384x384, .f32⟩
  | 101 => ⟨S8x384x192, .f32⟩
  | 102 => ⟨S8x384x192, .i32⟩
  | 103 => ⟨S8x384x1, .f32⟩
  | 104 => ⟨S4294967296, .i32⟩
  | 105 => ⟨S4294967296, .f32⟩
  | 106 => ⟨S1x1x4294967296, .f32⟩
  | 107 => ⟨S8x384x4294967296, .f32⟩
  | 108 => ⟨S8x384x4294967296, .f32⟩
  | 109 => ⟨S8x384x4294967296, .i1⟩
  | 110 => ⟨S_, .f32⟩
  | 111 => ⟨S_, .f32⟩
  | 112 => ⟨S8x384x4294967296, .f32⟩
  | 113 => ⟨S8x384x4294967296, .f32⟩
  | 114 => ⟨S8x384x4294967296, .f32⟩
  | 115 => ⟨S_, .f32⟩
  | 116 => ⟨S8x384, .f32⟩
  | 117 => ⟨S8x384x1, .f32⟩
  | 118 => ⟨S8x384x384, .f32⟩
  | 119 => ⟨S8x384x384, .i1⟩
  | 120 => ⟨S_, .f32⟩
  | 121 => ⟨S8x384x384, .f32⟩
  | 122 => ⟨S8x384x384, .f32⟩
  | 123 => ⟨S_, .f32⟩
  | 124 => ⟨S8x384, .f32⟩
  | 125 => ⟨S_, .f32⟩
  | 126 => ⟨S8x384, .f32⟩
  | 127 => ⟨S8x384, .f32⟩
  | _ => ⟨S8x32x32x384, .f32⟩

abbrev hbmTy0_1 (i : Nat) : BufTy := match i % 128 with
  | 0 => ⟨S8x384x1, .f32⟩
  | 1 => ⟨S_, .f32⟩
  | 2 => ⟨S_, .f32⟩
  | 3 => ⟨S8x384x384, .f32⟩
  | 4 => ⟨S8x384x384, .f32⟩
  | 5 => ⟨S8x384x384, .f32⟩
  | 6 => ⟨S8x384x384, .f32⟩
  | 7 => ⟨S8x384x384, .f32⟩
  | 8 => ⟨S_, .f32⟩
  | 9 => ⟨S8x384x384, .f32⟩
  | 10 => ⟨S8x384x384, .f32⟩
  | 11 => ⟨S_, .f32⟩
  | 12 => ⟨S8x384, .f32⟩
  | 13 => ⟨S8x384x1, .f32⟩
  | 14 => ⟨S8x384x384, .f32⟩
  | 15 => ⟨S8x384x384, .f32⟩
  | 16 => ⟨S_, .i32⟩
  | 17 => ⟨S_, .f32⟩
  | 18 => ⟨S8x384x384, .f32⟩
  | 19 => ⟨S8x384x384, .f32⟩
  | 20 => ⟨S8x384x1024, .f32⟩
  | 21 => ⟨S8x384x256, .f32⟩
  | 22 => ⟨S8x384x256, .i32⟩
  | 23 => ⟨S8x384x1, .f32⟩
  | 24 => ⟨S4294967296, .i32⟩
  | 25 => ⟨S4294967296, .f32⟩
  | 26 => ⟨S1x1x4294967296, .f32⟩
  | 27 => ⟨S8x384x4294967296, .f32⟩
  | 28 => ⟨S8x384x4294967296, .f32⟩
  | 29 => ⟨S8x384x4294967296, .i1⟩
  | 30 => ⟨S_, .f32⟩
  | 31 => ⟨S_, .f32⟩
  | 32 => ⟨S8x384x4294967296, .f32⟩
  | 33 => ⟨S8x384x4294967296, .f32⟩
  | 34 => ⟨S8x384x4294967296, .f32⟩
  | 35 => ⟨S_, .f32⟩
  | 36 => ⟨S8x384, .f32⟩
  | 37 => ⟨S8x384x1, .f32⟩
  | 38 => ⟨S8x384x384, .f32⟩
  | 39 => ⟨S8x384x384, .i1⟩
  | 40 => ⟨S_, .f32⟩
  | 41 => ⟨S8x384x384, .f32⟩
  | 42 => ⟨S8x384x384, .f32⟩
  | 43 => ⟨S_, .f32⟩
  | 44 => ⟨S8x384, .f32⟩
  | 45 => ⟨S_, .f32⟩
  | 46 => ⟨S8x384, .f32⟩
  | 47 => ⟨S8x384, .f32⟩
  | 48 => ⟨S8x384x1, .f32⟩
  | 49 => ⟨S_, .f32⟩
  | 50 => ⟨S_, .f32⟩
  | 51 => ⟨S8x384x384, .f32⟩
  | 52 => ⟨S8x384x384, .f32⟩
  | 53 => ⟨S8x384x384, .f32⟩
  | 54 => ⟨S8x384x384, .f32⟩
  | 55 => ⟨S8x384x384, .f32⟩
  | 56 => ⟨S_, .f32⟩
  | 57 => ⟨S8x384x384, .f32⟩
  | 58 => ⟨S8x384x384, .f32⟩
  | 59 => ⟨S_, .f32⟩
  | 60 => ⟨S8x384, .f32⟩
  | 61 => ⟨S8x384x1, .f32⟩
  | 62 => ⟨S8x384x384, .f32⟩
  | 63 => ⟨S8x384x384, .f32⟩
  | 64 => ⟨S_, .i32⟩
  | 65 => ⟨S_, .f32⟩
  | 66 => ⟨S8x384x384, .f32⟩
  | 67 => ⟨S8x384x384, .f32⟩
  | 68 => ⟨S8x384x1024, .f32⟩
  | 69 => ⟨S8x384x288, .f32⟩
  | 70 => ⟨S8x384x288, .i32⟩
  | 71 => ⟨S8x384x1, .f32⟩
  | 72 => ⟨S4294967296, .i32⟩
  | 73 => ⟨S4294967296, .f32⟩
  | 74 => ⟨S1x1x4294967296, .f32⟩
  | 75 => ⟨S8x384x4294967296, .f32⟩
  | 76 => ⟨S8x384x4294967296, .f32⟩
  | 77 => ⟨S8x384x4294967296, .i1⟩
  | 78 => ⟨S_, .f32⟩
  | 79 => ⟨S_, .f32⟩
  | 80 => ⟨S8x384x4294967296, .f32⟩
  | 81 => ⟨S8x384x4294967296, .f32⟩
  | 82 => ⟨S8x384x4294967296, .f32⟩
  | 83 => ⟨S_, .f32⟩
  | 84 => ⟨S8x384, .f32⟩
  | 85 => ⟨S8x384x1, .f32⟩
  | 86 => ⟨S8x384x384, .f32⟩
  | 87 => ⟨S8x384x384, .i1⟩
  | 88 => ⟨S_, .f32⟩
  | 89 => ⟨S8x384x384, .f32⟩
  | 90 => ⟨S8x384x384, .f32⟩
  | 91 => ⟨S_, .f32⟩
  | 92 => ⟨S8x384, .f32⟩
  | 93 => ⟨S_, .f32⟩
  | 94 => ⟨S8x384, .f32⟩
  | 95 => ⟨S8x384, .f32⟩
  | 96 => ⟨S8x384x1, .f32⟩
  | 97 => ⟨S_, .f32⟩
  | 98 => ⟨S_, .f32⟩
  | 99 => ⟨S8x384x384, .f32⟩
  | 100 => ⟨S8x384x384, .f32⟩
  | 101 => ⟨S8x384x384, .f32⟩
  | 102 => ⟨S8x384x384, .f32⟩
  | 103 => ⟨S8x384x384, .f32⟩
  | 104 => ⟨S_, .f32⟩
  | 105 => ⟨S8x384x384, .f32⟩
  | 106 => ⟨S8x384x384, .f32⟩
  | 107 => ⟨S_, .f32⟩
  | 108 => ⟨S8x384, .f32⟩
  | 109 => ⟨S8x384x1, .f32⟩
  | 110 => ⟨S8x384x384, .f32⟩
  | 111 => ⟨S8x384x384, .f32⟩
  | 112 => ⟨S_, .i32⟩
  | 113 => ⟨S_, .f32⟩
  | 114 => ⟨S8x384x384, .f32⟩
  | 115 => ⟨S8x384x384, .f32⟩
  | 116 => ⟨S8x384x1024, .f32⟩
  | 117 => ⟨S8x384x307, .f32⟩
  | 118 => ⟨S8x384x307, .i32⟩
  | 119 => ⟨S8x384x1, .f32⟩
  | 120 => ⟨S4294967296, .i32⟩
  | 121 => ⟨S4294967296, .f32⟩
  | 122 => ⟨S1x1x4294967296, .f32⟩
  | 123 => ⟨S8x384x4294967296, .f32⟩
  | 124 => ⟨S8x384x4294967296, .f32⟩
  | 125 => ⟨S8x384x4294967296, .i1⟩
  | 126 => ⟨S_, .f32⟩
  | 127 => ⟨S_, .f32⟩
  | _ => ⟨S8x32x32x384, .f32⟩

abbrev hbmTy0_2 (i : Nat) : BufTy := match i % 128 with
  | 0 => ⟨S8x384x4294967296, .f32⟩
  | 1 => ⟨S8x384x4294967296, .f32⟩
  | 2 => ⟨S8x384x4294967296, .f32⟩
  | 3 => ⟨S_, .f32⟩
  | 4 => ⟨S8x384, .f32⟩
  | 5 => ⟨S8x384x1, .f32⟩
  | 6 => ⟨S8x384x384, .f32⟩
  | 7 => ⟨S8x384x384, .i1⟩
  | 8 => ⟨S_, .f32⟩
  | 9 => ⟨S8x384x384, .f32⟩
  | 10 => ⟨S8x384x384, .f32⟩
  | 11 => ⟨S_, .f32⟩
  | 12 => ⟨S8x384, .f32⟩
  | 13 => ⟨S_, .f32⟩
  | 14 => ⟨S8x384, .f32⟩
  | 15 => ⟨S8x384, .f32⟩
  | 16 => ⟨S8x384x1, .f32⟩
  | 17 => ⟨S_, .f32⟩
  | 18 => ⟨S_, .f32⟩
  | 19 => ⟨S8x384x384, .f32⟩
  | 20 => ⟨S8x384x384, .f32⟩
  | 21 => ⟨S8x384x384, .f32⟩
  | 22 => ⟨S8x384x384, .f32⟩
  | 23 => ⟨S8x384x384, .f32⟩
  | 24 => ⟨S_, .f32⟩
  | 25 => ⟨S8x384x384, .f32⟩
  | 26 => ⟨S8x384x384, .f32⟩
  | 27 => ⟨S_, .f32⟩
  | 28 => ⟨S8x384, .f32⟩
  | 29 => ⟨S8x384x1, .f32⟩
  | 30 => ⟨S8x384x384, .f32⟩
  | 31 => ⟨S8x384x384, .f32⟩
  | 32 => ⟨S_, .i32⟩
  | 33 => ⟨S_, .f32⟩
  | 34 => ⟨S8x384x384, .f32⟩
  | 35 => ⟨S8x384x384, .f32⟩
  | 36 => ⟨S8x384x1024, .f32⟩
  | 37 => ⟨S1, .f32⟩
  | 38 => ⟨S_, .f32⟩
  | 39 => ⟨S8x384x1024, .f32⟩
  | 40 => ⟨S8x384x1024, .f32⟩
  | 41 => ⟨S1, .f32⟩
  | 42 => ⟨S_, .f32⟩
  | 43 => ⟨S8x384x1024, .f32⟩
  | 44 => ⟨S8x384x1024, .f32⟩
  | 45 => ⟨S8x384x1024, .f32⟩
  | 46 => ⟨S1, .f32⟩
  | 47 => ⟨S_, .f32⟩
  | 48 => ⟨S8x384x1024, .f32⟩
  | 49 => ⟨S8x384x1024, .f32⟩
  | 50 => ⟨S8x384x1024, .f32⟩
  | 51 => ⟨S1, .f32⟩
  | 52 => ⟨S_, .f32⟩
  | 53 => ⟨S8x384x1024, .f32⟩
  | 54 => ⟨S8x384x1024, .f32⟩
  | 55 => ⟨S8x384x1024, .f32⟩
  | 56 => ⟨S8x384x32x32, .f32⟩
  | 57 => ⟨S8x32x32x768, .f32⟩
  | 58 => ⟨S8x768x32x32, .f32⟩
  | 59 => ⟨S1x768x1x1, .f32⟩
  | 60 => ⟨S8x768x32x32, .f32⟩
  | 61 => ⟨S8x768x32x32, .f32⟩
  | 62 => ⟨S8x768x1024, .f32⟩
  | 63 => ⟨S8x1024x768, .f32⟩
  | 64 => ⟨S_, .f32⟩
  | 65 => ⟨S8x1024, .f32⟩
  | 66 => ⟨S8x1024x1, .f32⟩
  | 67 => ⟨S_, .f32⟩
  | 68 => ⟨S8x1024x1, .f32⟩
  | 69 => ⟨S8x1024x1, .f32⟩
  | 70 => ⟨S8x1024x768, .f32⟩
  | 71 => ⟨S8x1024x768, .f32⟩
  | 72 => ⟨S8x1024x768, .f32⟩
  | 73 => ⟨S_, .f32⟩
  | 74 => ⟨S8x1024, .f32⟩
  | 75 => ⟨S8x1024x1, .f32⟩
  | 76 => ⟨S_, .f32⟩
  | 77 => ⟨S8x1024x1, .f32⟩
  | 78 => ⟨S8x1024x1, .f32⟩
  | 79 => ⟨S8x1024x768, .f32⟩
  | 80 => ⟨S8x1024x768, .f32⟩
  | 81 => ⟨S_, .f32⟩
  | 82 => ⟨S8x1024x1, .f32⟩
  | 83 => ⟨S8x1024x1, .f32⟩
  | 84 => ⟨S8x1024x1, .f32⟩
  | 85 => ⟨S8x1024x768, .f32⟩
  | 86 => ⟨S8x1024x768, .f32⟩
  | 87 => ⟨S1x1x768, .f32⟩
  | 88 => ⟨S8x1024x768, .f32⟩
  | 89 => ⟨S8x1024x768, .f32⟩
  | 90 => ⟨S1x1x768, .f32⟩
  | 91 => ⟨S8x1024x768, .f32⟩
  | 92 => ⟨S8x1024x768, .f32⟩
  | 93 => ⟨S8x768x1024, .f32⟩
  | _ => ⟨S8x32x32x384, .f32⟩

abbrev hbmTy (i : Nat) : BufTy := match i / 128 with
  | 0 => hbmTy0_0 i
  | 1 => hbmTy0_1 i
  | 2 => hbmTy0_2 i
  | _ => ⟨S8x32x32x384, .f32⟩

abbrev bufTy : (tb : Table) → Fin (tcTables nBuf tb) → BufTy
  | .hbm, ⟨i, _⟩ => hbmTy i
  | _, _ => ⟨S8x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_values : Ref sig .tc := ⟨.hbm, 101, rfl⟩
abbrev main_indices : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_call1_v0 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_call2_v0 : Ref sig .tc := ⟨.hbm, 130, rfl⟩
abbrev main_call2_v1 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_21 : Ref sig .tc := ⟨.hbm, 136, rfl⟩
abbrev main_call3_v0 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c : Ref sig .tc := ⟨.hbm, 144, rfl⟩
abbrev main_call4_v0 : Ref sig .tc := ⟨.hbm, 145, rfl⟩
abbrev main_call4_v1 : Ref sig .tc := ⟨.hbm, 146, rfl⟩
abbrev main_v102 : Ref sig .tc := ⟨.hbm, 147, rfl⟩
abbrev main_v103 : Ref sig .tc := ⟨.hbm, 148, rfl⟩
abbrev main_values_23 : Ref sig .tc := ⟨.hbm, 149, rfl⟩
abbrev main_indices_24 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_25 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v111 : Ref sig .tc := ⟨.hbm, 162, rfl⟩
abbrev main_cst_26 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_27 : Ref sig .tc := ⟨.hbm, 168, rfl⟩
abbrev main_call6_v0 : Ref sig .tc := ⟨.hbm, 169, rfl⟩
abbrev main_v116 : Ref sig .tc := ⟨.hbm, 170, rfl⟩
abbrev main_cst_28 : Ref sig .tc := ⟨.hbm, 171, rfl⟩
abbrev main_v117 : Ref sig .tc := ⟨.hbm, 172, rfl⟩
abbrev main_cst_29 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_30 : Ref sig .tc := ⟨.hbm, 177, rfl⟩
abbrev main_call7_v0 : Ref sig .tc := ⟨.hbm, 178, rfl⟩
abbrev main_call7_v1 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_31 : Ref sig .tc := ⟨.hbm, 184, rfl⟩
abbrev main_call8_v0 : Ref sig .tc := ⟨.hbm, 185, rfl⟩
abbrev main_v125 : Ref sig .tc := ⟨.hbm, 186, rfl⟩
abbrev main_cst_32 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_c_33 : Ref sig .tc := ⟨.hbm, 192, rfl⟩
abbrev main_call9_v0 : Ref sig .tc := ⟨.hbm, 193, rfl⟩
abbrev main_call9_v1 : Ref sig .tc := ⟨.hbm, 194, rfl⟩
abbrev main_v130 : Ref sig .tc := ⟨.hbm, 195, rfl⟩
abbrev main_v131 : Ref sig .tc := ⟨.hbm, 196, rfl⟩
abbrev main_values_34 : Ref sig .tc := ⟨.hbm, 197, rfl⟩
abbrev main_indices_35 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_36 : Ref sig .tc := ⟨.hbm, 206, rfl⟩
abbrev main_call10_v0 : Ref sig .tc := ⟨.hbm, 207, rfl⟩
abbrev main_call10_v1 : Ref sig .tc := ⟨.hbm, 208, rfl⟩
abbrev main_call10_v2 : Ref sig .tc := ⟨.hbm, 209, rfl⟩
abbrev main_v139 : Ref sig .tc := ⟨.hbm, 210, rfl⟩
abbrev main_cst_37 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_38 : Ref sig .tc := ⟨.hbm, 216, rfl⟩
abbrev main_call11_v0 : Ref sig .tc := ⟨.hbm, 217, rfl⟩
abbrev main_v144 : Ref sig .tc := ⟨.hbm, 218, rfl⟩
abbrev main_cst_39 : Ref sig .tc := ⟨.hbm, 219, rfl⟩
abbrev main_v145 : Ref sig .tc := ⟨.hbm, 220, rfl⟩
abbrev main_cst_40 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_41 : Ref sig .tc := ⟨.hbm, 225, rfl⟩
abbrev main_call12_v0 : Ref sig .tc := ⟨.hbm, 226, rfl⟩
abbrev main_call12_v1 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_42 : Ref sig .tc := ⟨.hbm, 232, rfl⟩
abbrev main_call13_v0 : Ref sig .tc := ⟨.hbm, 233, rfl⟩
abbrev main_v153 : Ref sig .tc := ⟨.hbm, 234, rfl⟩
abbrev main_cst_43 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_c_44 : Ref sig .tc := ⟨.hbm, 240, rfl⟩
abbrev main_call14_v0 : Ref sig .tc := ⟨.hbm, 241, rfl⟩
abbrev main_call14_v1 : Ref sig .tc := ⟨.hbm, 242, rfl⟩
abbrev main_v158 : Ref sig .tc := ⟨.hbm, 243, rfl⟩
abbrev main_v159 : Ref sig .tc := ⟨.hbm, 244, rfl⟩
abbrev main_values_45 : Ref sig .tc := ⟨.hbm, 245, rfl⟩
abbrev main_indices_46 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_47 : Ref sig .tc := ⟨.hbm, 254, rfl⟩
abbrev main_call15_v0 : Ref sig .tc := ⟨.hbm, 255, rfl⟩
abbrev main_call15_v1 : Ref sig .tc := ⟨.hbm, 256, rfl⟩
abbrev main_call15_v2 : Ref sig .tc := ⟨.hbm, 257, rfl⟩
abbrev main_v167 : Ref sig .tc := ⟨.hbm, 258, rfl⟩
abbrev main_cst_48 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_cst_49 : Ref sig .tc := ⟨.hbm, 264, rfl⟩
abbrev main_call16_v0 : Ref sig .tc := ⟨.hbm, 265, rfl⟩
abbrev main_v172 : Ref sig .tc := ⟨.hbm, 266, rfl⟩
abbrev main_cst_50 : Ref sig .tc := ⟨.hbm, 267, rfl⟩
abbrev main_v173 : Ref sig .tc := ⟨.hbm, 268, rfl⟩
abbrev main_cst_51 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_cst_52 : Ref sig .tc := ⟨.hbm, 273, rfl⟩
abbrev main_call17_v0 : Ref sig .tc := ⟨.hbm, 274, rfl⟩
abbrev main_call17_v1 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_53 : Ref sig .tc := ⟨.hbm, 280, rfl⟩
abbrev main_call18_v0 : Ref sig .tc := ⟨.hbm, 281, rfl⟩
abbrev main_v181 : Ref sig .tc := ⟨.hbm, 282, rfl⟩
abbrev main_cst_54 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_c_55 : Ref sig .tc := ⟨.hbm, 288, rfl⟩
abbrev main_call19_v0 : Ref sig .tc := ⟨.hbm, 289, rfl⟩
abbrev main_call19_v1 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_cst_56 : Ref sig .tc := ⟨.hbm, 320, rfl⟩
abbrev main_v215 : Ref sig .tc := ⟨.hbm, 321, rfl⟩
abbrev main_v216 : Ref sig .tc := ⟨.hbm, 322, rfl⟩
abbrev main_cst_57 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_cst_58 : Ref sig .tc := ⟨.hbm, 329, rfl⟩
abbrev main_v222 : Ref sig .tc := ⟨.hbm, 330, rfl⟩
abbrev main_v223 : Ref sig .tc := ⟨.hbm, 331, rfl⟩
abbrev main_cst_59 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_cst_60 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩

abbrev nD : Nat := 1
abbrev τ : Topo := Topo.v7x

variable {F : FTy → Type} [FloatOps F]
-- ==== Proof.Words.lean ====
/- Sortable words: the 32-bit words in an order in which the binary32 numbers they stand for increase, the middle of two
   words, and the least binary32 number not below a given real. -/
module

public import Idealize.ShloMosaic.Lib.TotalOrder
public import Mathlib.Algebra.Order.Group.Nat

@[expose] public section

noncomputable section

namespace Cert.Proof

open Idealize.ShloMosaic

/-! ## Words as whole numbers -/

theorem add_eq_and_xor (a b : ℕ) : a + b = 2 * (a &&& b) + (a ^^^ b) := by
  induction a using Nat.strong_induction_on generalizing b with
  | _ a ih =>
    rcases Nat.eq_zero_or_pos a with rfl | ha
    · simp
    · have h := ih (a / 2) (by omega) (b / 2)
      have h1 : (a &&& b) / 2 = a / 2 &&& b / 2 := Nat.and_div_two
      have h2 : (a ^^^ b) / 2 = a / 2 ^^^ b / 2 := Nat.xor_div_two
      have h3 : (a &&& b) % 2 = (a % 2) &&& (b % 2) := by
        have := Nat.and_mod_two_pow (a := a) (b := b) (n := 1); simpa using this
      have h4 : (a ^^^ b) % 2 = (a % 2) ^^^ (b % 2) := by
        have := Nat.xor_mod_two_pow (a := a) (b := b) (n := 1); simpa using this
      rw [← h1, ← h2] at h
      rcases Nat.mod_two_eq_zero_or_one a with h5 | h5 <;> rcases Nat.mod_two_eq_zero_or_one b with h6 | h6 <;>
        rw [h5, h6] at h3 h4 <;>
        simp only [Nat.zero_and, Nat.and_zero, Nat.and_self, Nat.xor_self, Nat.xor_zero, Nat.zero_xor] at h3 h4 <;> omega

/-- The middle of two words, as the kernel computes it. -/
def midW (lo hi : BitVec 32) : BitVec 32 := (lo &&& hi) + (lo ^^^ hi).sshiftRight 1

/-- On two words of one half it is the middle, rounded down. -/
theorem toNat_midW {lo hi : BitVec 32} (h : lo.toNat < 2 ^ 31 ↔ hi.toNat < 2 ^ 31) :
    (midW lo hi).toNat = (lo.toNat + hi.toNat) / 2 := by
  have e := add_eq_and_xor lo.toNat hi.toNat
  have hl := lo.isLt
  have hh := hi.isLt
  have hx : (lo.toNat ^^^ hi.toNat) < 2 ^ 31 := by
    by_cases hc : lo.toNat < 2 ^ 31
    · exact Nat.xor_lt_two_pow hc (h.mp hc)
    · have hc' : ¬hi.toNat < 2 ^ 31 := fun q => hc (h.mpr q)
      have h1 : (lo.toNat ^^^ hi.toNat) / 2 ^ 31 = lo.toNat / 2 ^ 31 ^^^ hi.toNat / 2 ^ 31 := Nat.xor_div_two_pow
      have h2 : lo.toNat / 2 ^ 31 = 1 := by omega
      have h3 : hi.toNat / 2 ^ 31 = 1 := by omega
      rw [h2, h3] at h1
      have : (lo.toNat ^^^ hi.toNat) / 2 ^ 31 = 0 := by rw [h1]; decide
      omega
  have hm : (lo ^^^ hi).msb = false := by
    rw [BitVec.msb_eq_false_iff_two_mul_lt, BitVec.toNat_xor]; omega
  unfold midW
  rw [BitVec.toNat_add, BitVec.toNat_and, BitVec.sshiftRight_eq_of_msb_false hm, BitVec.toNat_ushiftRight, BitVec.toNat_xor,
    Nat.shiftRight_eq_div_pow]
  have : (lo.toNat &&& hi.toNat) ≤ lo.toNat := Nat.and_le_left
  omega

/-- The bit pattern of the number a sortable word stands for. -/
def patW (w : BitVec 32) : BitVec 32 := if w.slt 0#32 then w ^^^ 2147483647#32 else w

theorem patW_of_lt {w : BitVec 32} (h : w.toNat < 2 ^ 31) : patW w = w := by
  unfold patW
  rw [if_neg]
  rw [BitVec.slt_zero_eq_msb, Bool.not_eq_true, BitVec.msb_eq_false_iff_two_mul_lt]
  omega

theorem toNat_patW_of_le {w : BitVec 32} (h : 2 ^ 31 ≤ w.toNat) : (patW w).toNat = 2 ^ 31 + (2 ^ 32 - 1 - w.toNat) := by
  unfold patW
  rw [if_pos]
  · have e := add_eq_and_xor w.toNat (2 ^ 31 - 1)
    rw [Nat.and_two_pow_sub_one_eq_mod] at e
    have := w.isLt
    rw [BitVec.toNat_xor]
    simp only [BitVec.toNat_ofNat, Nat.reducePow, Nat.reduceMod] at *
    norm_num at e
    omega
  · rw [BitVec.slt_zero_eq_msb, BitVec.msb_eq_true_iff_two_mul_ge]
    omega

theorem patW_patW (w : BitVec 32) : patW (patW w) = w := by
  by_cases h : w.toNat < 2 ^ 31
  · rw [patW_of_lt h, patW_of_lt h]
  · have h' : 2 ^ 31 ≤ w.toNat := by omega
    apply BitVec.eq_of_toNat_eq
    have e := toNat_patW_of_le h'
    rw [toNat_patW_of_le (by omega), e]
    have := w.isLt
    omega

/-! ## The numbers of the words -/

/-- The number of a bit pattern. -/
def fl (w : BitVec 32) : EReal := Ideal.ofBits .f32 w

/-- The number of a sortable word. -/
def num (w : BitVec 32) : EReal := fl (patW w)

theorem mag_eq (w : BitVec 32) : TotalOrder.mag 8 23 w = w.toNat % 2 ^ 31 := by
  have h := TotalOrder.toNat_eq_sign_add_mag (e := 8) (m := 23) w
  have h1 := TotalOrder.mag_lt 8 23 w
  have h2 := w.isLt
  norm_num at h h1
  split at h <;> omega

theorem isNaN_iff (w : BitVec 32) : TotalOrder.IsNaN 8 23 w ↔ 2139095040 < w.toNat % 2 ^ 31 := by
  rw [← mag_eq]
  constructor
  · rintro ⟨h1, h2⟩
    unfold TotalOrder.mag
    rw [h1]
    omega
  · intro h
    by_contra hn
    have := (TotalOrder.mag_le_of_not_isNaN hn).1
    omega

theorem fl_nan {w : BitVec 32} (h : 2139095040 < w.toNat % 2 ^ 31) : fl w = ⊥ := by
  obtain ⟨h1, h2⟩ := (isNaN_iff w).mpr h
  unfold TotalOrder.expo at h1
  unfold TotalOrder.frac at h2
  show Ideal.ieee 8 23 w = ⊥
  unfold Ideal.ieee
  simp only
  rw [if_pos h1, if_neg h2]

theorem fl_pos {w : BitVec 32} (h : w.toNat ≤ 2139095040) : fl w = TotalOrder.absVal 8 23 w := by
  show Ideal.ieee 8 23 w = _
  rw [TotalOrder.ieee_eq_signed_absVal (by rw [isNaN_iff]; omega), TotalOrder.sign_eq_msb, if_neg]
  rw [Bool.not_eq_true, BitVec.msb_eq_false_iff_two_mul_lt]
  omega

theorem fl_neg {w : BitVec 32} (h : 2 ^ 31 ≤ w.toNat) (h' : w.toNat % 2 ^ 31 ≤ 2139095040) :
    fl w = -TotalOrder.absVal 8 23 w := by
  show Ideal.ieee 8 23 w = _
  rw [TotalOrder.ieee_eq_signed_absVal (by rw [isNaN_iff]; omega), TotalOrder.sign_eq_msb, if_pos]
  rw [BitVec.msb_eq_true_iff_two_mul_ge]
  omega

theorem absVal_mono {a b : BitVec 32} (hb : b.toNat % 2 ^ 31 ≤ 2139095040) (h : a.toNat % 2 ^ 31 ≤ b.toNat % 2 ^ 31) :
    TotalOrder.absVal 8 23 a ≤ TotalOrder.absVal 8 23 b := by
  refine not_lt.mp fun hlt => ?_
  rw [TotalOrder.absVal_lt_absVal_iff (by rw [isNaN_iff]; omega) (by rw [isNaN_iff]; omega), mag_eq, mag_eq] at hlt
  omega

/-- On the half of the positive numbers the order is that of the words, up to the infinity. -/
theorem num_mono_pos {a b : BitVec 32} (hb : b.toNat ≤ 2139095040) (h : a.toNat ≤ b.toNat) : num a ≤ num b := by
  unfold num
  rw [patW_of_lt (by omega), patW_of_lt (by omega), fl_pos (by omega), fl_pos hb]
  exact absVal_mono (by omega) (by omega)

/-- On the half of the negative numbers the order is that of the words; what is no number counts as the least. -/
theorem num_mono_neg {a b : BitVec 32} (ha : 2 ^ 31 ≤ a.toNat) (h : a.toNat ≤ b.toNat) : num a ≤ num b := by
  unfold num
  have ea := toNat_patW_of_le ha
  have eb := toNat_patW_of_le (w := b) (by omega)
  have la := a.isLt
  have lb := b.isLt
  by_cases hn : 2139095040 < (patW a).toNat % 2 ^ 31
  · rw [fl_nan hn]; exact bot_le
  · rw [fl_neg (by omega) (by omega), fl_neg (by omega) (by omega)]
    exact EReal.neg_le_neg_iff.mpr (absVal_mono (by omega) (by omega))

theorem num_nan {a : BitVec 32} (h : a.toNat < 2 ^ 31) (h' : 2139095040 < a.toNat) : num a = ⊥ := by
  unfold num
  rw [patW_of_lt h]
  exact fl_nan (by omega)

theorem num_nonneg {a : BitVec 32} (h : a.toNat ≤ 2139095040) : 0 ≤ num a := by
  unfold num
  rw [patW_of_lt (by omega), fl_pos h]
  exact TotalOrder.absVal_nonneg _

theorem num_nonpos {a : BitVec 32} (h : 2 ^ 31 ≤ a.toNat) : num a ≤ 0 := by
  unfold num
  have ea := toNat_patW_of_le h
  have la := a.isLt
  by_cases hn : 2139095040 < (patW a).toNat % 2 ^ 31
  · rw [fl_nan hn]; exact bot_le
  · rw [fl_neg (by omega) (by omega), EReal.neg_le, neg_zero]
    exact TotalOrder.absVal_nonneg _

/-- The number 0, as the last of the words of the negative half. -/
theorem num_last : num 4294967295#32 = 0 := by
  have : patW 4294967295#32 = 0x80000000#32 := by decide
  unfold num fl
  rw [this]
  simp [Ideal.ofBits, Ideal.ieee]

/-- The greatest finite number. -/
theorem num_greatest : num 0x7F7FFFFF#32 = ((340282346638528859811704183484516925440 : ℝ) : EReal) := by
  have : patW 0x7F7FFFFF#32 = 0x7F7FFFFF#32 := by decide
  unfold num fl
  rw [this]
  simp [Ideal.ofBits, Ideal.ieee, -EReal.coe_mul]
  norm_num

/-! ## The least binary32 number not below a real -/

/-- The least binary32 number that is at least `v`, or the infinity. -/
def atLeast (v : EReal) : EReal := ⨅ w : BitVec 32, if v ≤ fl w then fl w else ⊤

theorem atLeast_le {v : EReal} (w : BitVec 32) (h : v ≤ num w) : atLeast v ≤ num w := by
  refine (iInf_le _ (patW w)).trans ?_
  rw [if_pos (show v ≤ fl (patW w) from h)]
  exact le_rfl

theorem le_atLeast {v t : EReal} (h : ∀ w, v ≤ num w → t ≤ num w) : t ≤ atLeast v := by
  refine le_iInf fun w => ?_
  split
  · rename_i hv
    have := h (patW w)
    unfold num at this
    rw [patW_patW] at this
    exact this hv
  · exact le_top

/-- The bounds of the search halve around the least word of `Q`. -/
theorem halving (Q : BitVec 32 → Prop) (step : BitVec 32 × BitVec 32 → BitVec 32 × BitVec 32)
    (hstep : ∀ lo hi, (Q (midW lo hi) → step (lo, hi) = (lo, midW lo hi)) ∧
      (¬Q (midW lo hi) → step (lo, hi) = (midW lo hi + 1#32, hi)))
    (s0 A M B : ℕ) (hB : B = 2 ^ 31 - 1 ∨ B = 2 ^ 32 - 1) (hA : A + (2 ^ 31 - 1) = B) (hM : M = B ∨ M + 2 ^ 23 = B)
    (hs : A ≤ s0) (hsM : s0 ≤ M) (hQ : ∀ w : BitVec 32, A ≤ w.toNat → w.toNat ≤ M → (Q w ↔ s0 ≤ w.toNat)) :
    ∀ (r : ℕ) (lo hi : BitVec 32), A ≤ lo.toNat → hi.toNat ≤ B → lo.toNat ≤ s0 → s0 ≤ hi.toNat →
      lo.toNat + 2 ^ r = hi.toNat + 1 → (hi.toNat ≤ M ∨ (hi.toNat = B ∧ 24 ≤ r)) →
      (step^[r] (lo, hi)).1.toNat = s0
  | 0, lo, hi, h1, h2, h3, h4, h5, h6 => by
    show lo.toNat = s0
    omega
  | r + 1, lo, hi, h1, h2, h3, h4, h5, h6 => by
    have hm : (midW lo hi).toNat = (lo.toNat + hi.toNat) / 2 := toNat_midW (by omega)
    have hp : 0 < 2 ^ r := Nat.two_pow_pos r
    rw [Nat.pow_succ] at h5
    have hmM : (midW lo hi).toNat ≤ M := by
      rcases h6 with h6 | ⟨h6, h7⟩
      · omega
      · have : 2 ^ 23 ≤ 2 ^ r := Nat.pow_le_pow_right (by norm_num) (by omega)
        omega
    have hq := hQ (midW lo hi) (by omega) hmM
    rw [Function.iterate_succ_apply]
    by_cases hc : Q (midW lo hi)
    · rw [(hstep lo hi).1 hc]
      exact halving Q step hstep s0 A M B hB hA hM hs hsM hQ r lo _ h1 (by omega) h3 (hq.mp hc) (by omega) (Or.inl hmM)
    · rw [(hstep lo hi).2 hc]
      have hc' : ¬s0 ≤ (midW lo hi).toNat := fun h => hc (hq.mpr h)
      have hl := hi.isLt
      have e : (midW lo hi + 1#32).toNat = (midW lo hi).toNat + 1 := by
        rw [BitVec.toNat_add]
        simp only [BitVec.toNat_ofNat]
        omega
      refine halving Q step hstep s0 A M B hB hA hM hs hsM hQ r _ hi (by omega) h2 (by omega) h4 (by omega) ?_
      rcases h6 with h6 | ⟨h6, h7⟩
      · exact Or.inl h6
      · rcases hM with hM | hM
        · exact Or.inl (by omega)
        · refine Or.inr ⟨h6, ?_⟩
          by_contra h8
          have h9 : r = 23 := by omega
          subst h9
          omega

/-- The search from the sign: after thirty-one halvings the lower bound is the word of the least binary32 number not below
    `v`, for a real `v` not above the greatest finite one. -/
theorem search (v : EReal) (hv : v ≠ ⊥) (hv' : v ≤ num 0x7F7FFFFF#32)
    (step : BitVec 32 × BitVec 32 → BitVec 32 × BitVec 32)
    (hstep : ∀ lo hi, (v ≤ num (midW lo hi) → step (lo, hi) = (lo, midW lo hi)) ∧
      (¬v ≤ num (midW lo hi) → step (lo, hi) = (midW lo hi + 1#32, hi)))
    (q : BitVec 32 × BitVec 32) (hneg : v ≤ 0 → q = (2147483648#32, 4294967295#32))
    (hpos : ¬v ≤ 0 → q = (0#32, 2147483647#32)) :
    num (step^[31] q).1 = atLeast v := by
  classical
  by_cases h0 : v ≤ 0
  · have hex : ∃ n, 2 ^ 31 ≤ n ∧ n < 2 ^ 32 ∧ v ≤ num (BitVec.ofNat 32 n) :=
      ⟨4294967295, by norm_num, by norm_num, by rw [show BitVec.ofNat 32 4294967295 = 4294967295#32 from rfl, num_last]; exact h0⟩
    obtain ⟨s1, s2, s3⟩ := Nat.find_spec hex
    have smin := fun n => Nat.find_min' (H := hex) (m := n)
    generalize Nat.find hex = s0 at s1 s2 s3 smin
    have hs0 : (BitVec.ofNat 32 s0).toNat = s0 := by rw [BitVec.toNat_ofNat]; omega
    have hQ : ∀ w : BitVec 32, 2 ^ 31 ≤ w.toNat → (v ≤ num w ↔ s0 ≤ w.toNat) := fun w hw =>
      ⟨fun h => smin w.toNat ⟨hw, w.isLt, by rwa [BitVec.ofNat_toNat, BitVec.setWidth_eq]⟩,
        fun h => s3.trans (num_mono_neg (by omega) (by omega))⟩
    have hr := halving (fun w => v ≤ num w) step hstep s0 (2 ^ 31) (2 ^ 32 - 1) (2 ^ 32 - 1) (Or.inr rfl) (by norm_num)
      (Or.inl rfl) s1 (by omega) (fun w hw _ => hQ w hw) 31 2147483648#32 4294967295#32 (by decide) (by decide)
      (by simpa using s1) (by simp; omega) (by decide) (Or.inl (by decide))
    rw [hneg h0]
    have he : (step^[31] (2147483648#32, 4294967295#32)).1 = BitVec.ofNat 32 s0 :=
      BitVec.eq_of_toNat_eq (by rw [hr, hs0])
    rw [he]
    refine le_antisymm (le_atLeast fun w hw => ?_) (atLeast_le _ s3)
    by_cases hn : w.toNat < 2 ^ 31
    · by_cases hnn : 2139095040 < w.toNat
      · rw [num_nan hn hnn, le_bot_iff] at hw
        exact absurd hw hv
      · exact (num_nonpos (by omega)).trans (num_nonneg (by omega))
    · exact num_mono_neg (by omega) (by rw [hs0]; exact (hQ w (by omega)).mp hw)
  · have hex : ∃ n, n < 2 ^ 31 ∧ v ≤ num (BitVec.ofNat 32 n) := ⟨0x7F7FFFFF, by norm_num, hv'⟩
    obtain ⟨s2, s3⟩ := Nat.find_spec hex
    have smin := fun n => Nat.find_min' (H := hex) (m := n)
    generalize Nat.find hex = s0 at s2 s3 smin
    have hs0 : (BitVec.ofNat 32 s0).toNat = s0 := by rw [BitVec.toNat_ofNat]; omega
    have sM : s0 ≤ 0x7F7FFFFF := smin _ ⟨by norm_num, hv'⟩
    have hQ : ∀ w : BitVec 32, w.toNat ≤ 2139095040 → (v ≤ num w ↔ s0 ≤ w.toNat) := fun w hw =>
      ⟨fun h => smin w.toNat ⟨by omega, by rwa [BitVec.ofNat_toNat, BitVec.setWidth_eq]⟩,
        fun h => s3.trans (num_mono_pos (by omega) (by omega))⟩
    have hr := halving (fun w => v ≤ num w) step hstep s0 0 0x7F7FFFFF (2 ^ 31 - 1) (Or.inl rfl) (by norm_num)
      (Or.inr (by norm_num)) (Nat.zero_le _) sM (fun w _ hw => hQ w (by omega)) 31 0#32 2147483647#32 (by decide) (by decide)
      (by simp) (by simp; omega) (by decide) (Or.inr ⟨by decide, by decide⟩)
    rw [hpos h0]
    have he : (step^[31] (0#32, 2147483647#32)).1 = BitVec.ofNat 32 s0 :=
      BitVec.eq_of_toNat_eq (by rw [hr, hs0])
    rw [he]
    refine le_antisymm (le_atLeast fun w hw => ?_) (atLeast_le _ s3)
    by_cases hn : w.toNat < 2 ^ 31
    · by_cases hnn : 2139095040 < w.toNat
      · rw [num_nan hn hnn, le_bot_iff] at hw
        exact absurd hw hv
      · exact num_mono_pos (by omega) (by rw [hs0]; exact (hQ w (by omega)).mp hw)
    · exact absurd (hw.trans (num_nonpos (by omega))) h0

end Cert.Proof

end
-- ==== Proof.Reals.lean ====
/- The mathematics of the block over the reals: layer norm, softmax and the mixture of the masked softmaxes, each with the
   forms in which the two programs compute it on the extended reals. -/
module

public import proofs.«01_k».proof.Proof.Words
public import Idealize.ShloMosaic.Lib.IdealHost

@[expose] public section

noncomputable section

namespace Cert.Proof

open Idealize.ShloMosaic
open scoped BigOperators

/-! ## Sums, quotients and maxima of reals among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul]
  congr 1
  ring

/-- A maximum of reals (and of `⊥`) with a real among them is a real. -/
theorem fold_max_real {ι : Type} (s : Finset ι) (f : ι → EReal) (hf : ∀ i ∈ s, f i = ⊥ ∨ ∃ r : ℝ, f i = r)
    (hs : ∃ i ∈ s, ∃ r : ℝ, f i = r) : ∃ m : ℝ, s.fold max ⊥ f = m := by
  have h : s.fold max ⊥ f = s.sup f := rfl
  rw [h]
  obtain ⟨i, hi, r, hr⟩ := hs
  have hne : s.Nonempty := ⟨i, hi⟩
  obtain ⟨j, hj, e⟩ := Finset.exists_mem_eq_sup s hne f
  rcases hf j hj with hb | ⟨q, hq⟩
  · have : f i ≤ s.sup f := Finset.le_sup hi
    rw [e, hb, hr, le_bot_iff] at this
    exact absurd this (EReal.coe_ne_bot r)
  · exact ⟨q, e.trans hq⟩

/-! ## Layer norm -/

/-- The constant both layer norms add to the variance. -/
def eps : ℝ := 10995116 / 2 ^ 40

theorem eps_pos : 0 < eps := by unfold eps; positivity

theorem word_eps : Ideal.ofBits .f32 0x3727C5AC#32 = (eps : EReal) := by
  simp [Ideal.ofBits, Ideal.ieee, -EReal.coe_mul]
  unfold eps
  norm_num

theorem word_384 : Ideal.ofBits .f32 0x43C00000#32 = (((384 : ℕ) : ℝ) : EReal) := by
  simp [Ideal.ofBits, Ideal.ieee, -EReal.coe_mul]; norm_num

theorem word_768 : Ideal.ofBits .f32 0x44400000#32 = (((768 : ℕ) : ℝ) : EReal) := by
  simp [Ideal.ofBits, Ideal.ieee, -EReal.coe_mul]; norm_num

theorem word_bot : Ideal.ofBits .f32 0xFF800000#32 = ⊥ := by simp [Ideal.ofBits, Ideal.ieee]

theorem word_top : Ideal.ofBits .f32 0x7F800000#32 = ⊤ := by simp [Ideal.ofBits, Ideal.ieee]

theorem word_negzero : Ideal.ofBits .f32 0x80000000#32 = 0 := by simp [Ideal.ofBits, Ideal.ieee]

theorem word_192 : Ideal.ofBits .f32 0x43400000#32 = (((192 : ℕ) : ℝ) : EReal) := by
  simp [Ideal.ofBits, Ideal.ieee, -EReal.coe_mul]; norm_num

theorem word_256 : Ideal.ofBits .f32 0x43800000#32 = (((256 : ℕ) : ℝ) : EReal) := by
  simp [Ideal.ofBits, Ideal.ieee, -EReal.coe_mul]; norm_num

theorem word_288 : Ideal.ofBits .f32 0x43900000#32 = (((288 : ℕ) : ℝ) : EReal) := by
  simp [Ideal.ofBits, Ideal.ieee, -EReal.coe_mul]; norm_num

theorem word_307 : Ideal.ofBits .f32 0x43998000#32 = (((307 : ℕ) : ℝ) : EReal) := by
  simp [Ideal.ofBits, Ideal.ieee, -EReal.coe_mul]; norm_num

section Norm

variable {n : ℕ}

def mean (f : Fin n → ℝ) : ℝ := (∑ i, f i) / n

def variance (f : Fin n → ℝ) : ℝ := (∑ i, (f i - mean f) * (f i - mean f)) / n

/-- The entry's distance from the mean by the standard deviation. -/
def unit (f : Fin n → ℝ) (i : Fin n) : ℝ := (f i - mean f) / √(variance f + eps)

/-- Layer norm with scale `g` and shift `b`. -/
def norm (f g b : Fin n → ℝ) (i : Fin n) : ℝ := unit f i * g i + b i

theorem variance_nonneg (f : Fin n → ℝ) : 0 ≤ variance f :=
  div_nonneg (Finset.sum_nonneg fun i _ => mul_self_nonneg _) (Nat.cast_nonneg _)

/-- The variance as the mean of the squares less the square of the mean. -/
theorem variance_eq (hn : n ≠ 0) (f : Fin n → ℝ) :
    variance f = (∑ i, f i * f i) / n - (∑ i, f i) / n * ((∑ i, f i) / n) := by
  have hn' : (n : ℝ) ≠ 0 := Nat.cast_ne_zero.mpr hn
  have h : ∀ i, (f i - mean f) * (f i - mean f) = f i * f i - 2 * mean f * f i + mean f * mean f := fun i => by ring
  unfold variance
  simp only [h, Finset.sum_add_distrib, Finset.sum_sub_distrib, ← Finset.mul_sum, Finset.sum_const, Finset.card_univ,
    Fintype.card_fin, nsmul_eq_mul]
  unfold mean
  field_simp
  ring

/-- With the reciprocal square root and the variance from the squares. -/
theorem unit_rsqrt (hn : n ≠ 0) (f : Fin n → ℝ) (i : Fin n) :
    ((f i : EReal) - Ideal.div (∑ x, (f x : EReal)) ((n : ℝ) : EReal)) *
        Ideal.rsqrt (Ideal.div (∑ x, (f x : EReal) * (f x : EReal)) ((n : ℝ) : EReal)
          - Ideal.div (∑ x, (f x : EReal)) ((n : ℝ) : EReal) * Ideal.div (∑ x, (f x : EReal)) ((n : ℝ) : EReal)
          + (eps : EReal)) = (unit f i : EReal) := by
  have hn' : (n : ℝ) ≠ 0 := Nat.cast_ne_zero.mpr hn
  have hv := variance_eq hn f
  have hp : 0 < variance f + eps := add_pos_of_nonneg_of_pos (variance_nonneg f) eps_pos
  simp only [← EReal.coe_mul, coe_sum, div_real _ hn', ← EReal.coe_sub, ← EReal.coe_add]
  rw [← hv, Ideal.rsqrt_coe, if_neg (not_lt.mpr hp.le), if_neg hp.ne', ← EReal.coe_mul]
  rfl

/-- With the square root and the variance from the deviations. -/
theorem unit_sqrt (hn : n ≠ 0) (f : Fin n → ℝ) (i : Fin n) :
    Ideal.div ((f i : EReal) - Ideal.div (∑ x, (f x : EReal)) ((n : ℝ) : EReal))
        (Ideal.sqrt (Ideal.div (∑ x, ((f x : EReal) - Ideal.div (∑ y, (f y : EReal)) ((n : ℝ) : EReal))
            * ((f x : EReal) - Ideal.div (∑ y, (f y : EReal)) ((n : ℝ) : EReal))) ((n : ℝ) : EReal) + (eps : EReal)))
      = (unit f i : EReal) := by
  have hn' : (n : ℝ) ≠ 0 := Nat.cast_ne_zero.mpr hn
  have hp : 0 < variance f + eps := add_pos_of_nonneg_of_pos (variance_nonneg f) eps_pos
  have hm : (∑ i, f i) / n = mean f := rfl
  have hv : (∑ i, (f i - mean f) * (f i - mean f)) / n = variance f := rfl
  simp only [coe_sum, div_real _ hn', ← EReal.coe_sub, hm, ← EReal.coe_mul, hv, ← EReal.coe_add]
  rw [Ideal.sqrt_coe, if_neg (not_lt.mpr hp.le), div_real _ (Real.sqrt_ne_zero'.mpr hp)]
  rfl

/-- The scale and the shift, of reals. -/
theorem norm_of_unit {x : EReal} {f : Fin n → ℝ} {i : Fin n} (h : x = (unit f i : EReal)) (g b : Fin n → ℝ) :
    x * (g i : EReal) + (b i : EReal) = (norm f g b i : EReal) := by
  rw [h, ← EReal.coe_mul, ← EReal.coe_add]
  rfl

/-- A normalised entry is at most the square root of the number of entries. -/
theorem abs_norm_le (hn : n ≠ 0) (f g b : Fin n → ℝ) (i : Fin n) : |norm f g b i| ≤ √n * |g i| + |b i| := by
  have hp : 0 < variance f + eps := add_pos_of_nonneg_of_pos (variance_nonneg f) eps_pos
  have hn' : (0 : ℝ) < n := Nat.cast_pos.mpr (Nat.pos_of_ne_zero hn)
  have h1 : (f i - mean f) * (f i - mean f) ≤ n * (variance f + eps) := by
    have : (f i - mean f) * (f i - mean f) ≤ ∑ i, (f i - mean f) * (f i - mean f) :=
      Finset.single_le_sum (f := fun i => (f i - mean f) * (f i - mean f)) (fun i _ => mul_self_nonneg _) (Finset.mem_univ i)
    have h2 : ∑ i, (f i - mean f) * (f i - mean f) = n * variance f := by
      unfold variance; field_simp
    nlinarith [mul_pos hn' eps_pos]
  have h3 : |(f i - mean f) / √(variance f + eps)| ≤ √n := by
    rw [abs_div, abs_of_pos (Real.sqrt_pos.mpr hp), div_le_iff₀ (Real.sqrt_pos.mpr hp), ← Real.sqrt_mul hn'.le]
    apply Real.abs_le_sqrt
    rw [sq]; exact h1
  unfold norm unit
  refine (abs_add_le _ _).trans ?_
  rw [abs_mul]
  have := mul_le_mul_of_nonneg_right h3 (abs_nonneg (g i))
  linarith

end Norm

/-! ## Softmax -/

section Softmax

variable {ι : Type} [Fintype ι] [Nonempty ι]

def soft (f : ι → ℝ) (i : ι) : ℝ := Real.exp (f i) / ∑ j, Real.exp (f j)

theorem sum_exp_pos (f : ι → ℝ) : 0 < ∑ j, Real.exp (f j) :=
  Finset.sum_pos (fun j _ => Real.exp_pos _) Finset.univ_nonempty

theorem soft_nonneg (f : ι → ℝ) (i : ι) : 0 ≤ soft f i := div_nonneg (Real.exp_pos _).le (sum_exp_pos f).le

theorem sum_soft (f : ι → ℝ) : ∑ i, soft f i = 1 := by
  unfold soft
  rw [← Finset.sum_div, div_self (sum_exp_pos f).ne']

/-- Softmax of values less a number. -/
theorem soft_sub (f : ι → ℝ) (m : ℝ) (i : ι) :
    Ideal.div (Ideal.exp ((f i : EReal) - (m : EReal))) (∑ j, Ideal.exp ((f j : EReal) - (m : EReal)))
      = (soft f i : EReal) := by
  have h : ∀ j, Real.exp (f j - m) = Real.exp (f j) * Real.exp (-m) := fun j => by rw [← Real.exp_add]; rfl
  simp only [← EReal.coe_sub, Ideal.exp_coe, coe_sum]
  rw [div_real _ (sum_exp_pos _).ne']
  unfold soft
  simp only [h, ← Finset.sum_mul]
  rw [mul_div_mul_right _ _ (Real.exp_pos _).ne']

/-- Softmax from the exponentials of values less numbers of their own, taken back by multiplication. -/
theorem soft_mul (f m : ι → ℝ) (i : ι) :
    Ideal.div (Ideal.exp ((f i : EReal) - (m i : EReal)) * Ideal.exp (m i : EReal))
        (∑ j, Ideal.exp ((f j : EReal) - (m j : EReal)) * Ideal.exp (m j : EReal))
      = (soft f i : EReal) := by
  have h : ∀ j, Real.exp (f j - m j) * Real.exp (m j) = Real.exp (f j) := fun j => by
    rw [← Real.exp_add, sub_add_cancel]
  simp only [← EReal.coe_sub, Ideal.exp_coe, ← EReal.coe_mul, coe_sum, h]
  rw [div_real _ (sum_exp_pos _).ne']
  rfl

omit [Nonempty ι] in
/-- A mean with such weights stays within the bound of what it is taken of. -/
theorem abs_sum_soft_mul_le [Nonempty ι] (f v : ι → ℝ) {B : ℝ} (h : ∀ i, |v i| ≤ B) : |∑ i, soft f i * v i| ≤ B := by
  calc |∑ i, soft f i * v i| ≤ ∑ i, |soft f i * v i| := Finset.abs_sum_le_sum_abs _ _
    _ ≤ ∑ i, soft f i * B := Finset.sum_le_sum fun i _ => by
        rw [abs_mul, abs_of_nonneg (soft_nonneg f i)]
        exact mul_le_mul_of_nonneg_left (h i) (soft_nonneg f i)
    _ = B := by rw [← Finset.sum_mul, sum_soft, one_mul]

end Softmax

/-! ## Softmax over the entries kept -/

section Masked

variable {ι : Type} [Fintype ι]

open Classical in
/-- Softmax over the entries in `M`, and zero elsewhere. -/
def softOn (M : ι → Prop) (f : ι → ℝ) (i : ι) : ℝ :=
  if M i then Real.exp (f i) / ∑ j, (if M j then Real.exp (f j) else 0) else 0

theorem softOn_of_forall_not {M : ι → Prop} (h : ∀ i, ¬M i) (f : ι → ℝ) (i : ι) : softOn M f i = 0 := by
  unfold softOn
  rw [if_neg (h i)]

open Classical in
theorem sum_on_pos {M : ι → Prop} {i : ι} (h : M i) (f : ι → ℝ) : 0 < ∑ j, (if M j then Real.exp (f j) else 0) := by
  refine Finset.sum_pos' (fun j _ => ?_) ⟨i, Finset.mem_univ i, ?_⟩
  · split
    · exact (Real.exp_pos _).le
    · exact le_rfl
  · rw [if_pos h]; exact Real.exp_pos _

open Classical in
theorem softOn_sub (M : ι → Prop) (f : ι → ℝ) (m : ℝ) (i : ι) :
    softOn M f i = if M i then Real.exp (f i - m) / ∑ j, (if M j then Real.exp (f j - m) else 0) else 0 := by
  have h : ∀ j, Real.exp (f j - m) = Real.exp (f j) * Real.exp (-m) := fun j => by rw [← Real.exp_add]; rfl
  have h' : ∀ j, (if M j then Real.exp (f j - m) else 0) = (if M j then Real.exp (f j) else 0) * Real.exp (-m) := fun j => by
    split
    · exact h j
    · rw [zero_mul]
  unfold softOn
  rw [Finset.sum_congr rfl fun j _ => h' j, ← Finset.sum_mul, h, mul_div_mul_right _ _ (Real.exp_pos _).ne']

open Classical in
/-- The reference's form: the others are set to `⊥`, the exponentials taken less the maximum, the sum over those kept. -/
theorem softOn_host (M : ι → Prop) (f : ι → ℝ) (mx : EReal) (hmx : (∃ i, M i) → ∃ m : ℝ, mx = m) (i : ι) :
    (if M i then Ideal.div (Ideal.exp ((if M i then (f i : EReal) else ⊥) - mx))
        (∑ j, if M j then Ideal.exp ((if M j then (f j : EReal) else ⊥) - mx) else 0) else 0)
      = (softOn M f i : EReal) := by
  by_cases hi : M i
  · obtain ⟨m, rfl⟩ := hmx ⟨i, hi⟩
    have e : ∀ j, (if M j then Ideal.exp ((if M j then (f j : EReal) else ⊥) - (m : EReal)) else 0)
        = (((if M j then Real.exp (f j - m) else 0 : ℝ)) : EReal) := fun j => by
      split
      · rw [← EReal.coe_sub, Ideal.exp_coe]
      · rfl
    rw [softOn_sub M f m, if_pos hi, if_pos hi, if_pos hi, Finset.sum_congr rfl fun j _ => e j, coe_sum, ← EReal.coe_sub,
      Ideal.exp_coe, div_real _ (sum_on_pos hi fun j => f j - m).ne']
  · rw [if_neg hi, softOn, if_neg hi]; rfl

theorem softOn_host' (M : ι → Prop) [h : ∀ i, Decidable (M i)] (f : ι → ℝ) (mx : EReal)
    (hmx : (∃ i, M i) → ∃ m : ℝ, mx = m) (i : ι) :
    (if M i then Ideal.div (Ideal.exp ((if M i then (f i : EReal) else ⊥) - mx))
        (∑ j, if M j then Ideal.exp ((if M j then (f j : EReal) else ⊥) - mx) else 0) else 0)
      = (softOn M f i : EReal) := by
  obtain rfl : h = fun i => Classical.propDecidable _ := Subsingleton.elim _ _
  exact softOn_host M f mx hmx i

open Classical in
/-- The kernel's form: one exponential for the row, multiplied by the sum over the masks of the mask times the mask's weight
    over its sum. -/
theorem softOn_mix {κ : Type} [Fintype κ] (M : κ → ι → Prop) (f : ι → ℝ) (m : ℝ) (w : κ → ℝ) (i : ι) :
    Ideal.exp ((f i : EReal) - (m : EReal)) * ∑ k, (if M k i then (1 : EReal) else 0)
        * Ideal.div (w k : EReal) (∑ j, Ideal.exp ((f j : EReal) - (m : EReal)) * (if M k j then (1 : EReal) else 0))
      = ((∑ k, w k * softOn (M k) f i : ℝ) : EReal) := by
  have e : ∀ k, ∑ j, Ideal.exp ((f j : EReal) - (m : EReal)) * (if M k j then (1 : EReal) else 0)
      = ((∑ j, (if M k j then Real.exp (f j - m) else 0) : ℝ) : EReal) := fun k => by
    rw [← coe_sum]
    refine Finset.sum_congr rfl fun j _ => ?_
    rw [← EReal.coe_sub, Ideal.exp_coe]
    split
    · rw [mul_one]
    · rw [mul_zero]; rfl
  have e2 : ∀ k, (if M k i then (1 : EReal) else 0)
        * Ideal.div (w k : EReal) (∑ j, Ideal.exp ((f j : EReal) - (m : EReal)) * (if M k j then (1 : EReal) else 0))
      = ((if M k i then w k / ∑ j, (if M k j then Real.exp (f j - m) else 0) else 0 : ℝ) : EReal) := fun k => by
    by_cases hi : M k i
    · rw [e, if_pos hi, if_pos hi, one_mul, div_real _ (sum_on_pos hi fun j => f j - m).ne']
    · rw [if_neg hi, if_neg hi, zero_mul]; rfl
  rw [Finset.sum_congr rfl fun k _ => e2 k, coe_sum, ← EReal.coe_sub, Ideal.exp_coe, ← EReal.coe_mul, Finset.mul_sum]
  congr 1
  refine Finset.sum_congr rfl fun k _ => ?_
  rw [softOn_sub (M k) f m]
  split
  · ring
  · ring

theorem softOn_mix' {κ : Type} [Fintype κ] (M : κ → ι → Prop) [h : ∀ k i, Decidable (M k i)] (f : ι → ℝ) (m : ℝ) (w : κ → ℝ)
    (i : ι) :
    Ideal.exp ((f i : EReal) - (m : EReal)) * ∑ k, (if M k i then (1 : EReal) else 0)
        * Ideal.div (w k : EReal) (∑ j, Ideal.exp ((f j : EReal) - (m : EReal)) * (if M k j then (1 : EReal) else 0))
      = ((∑ k, w k * softOn (M k) f i : ℝ) : EReal) := by
  obtain rfl : h = fun k i => Classical.propDecidable _ := Subsingleton.elim _ _
  exact softOn_mix M f m w i

end Masked

/-! ## The `k`-th greatest and how many exceed a number -/

/-- `v` is the `k`-th greatest of `f`: more than `k - 1` of the entries exceed a number exactly when `v` exceeds it. -/
def IsKth {ι : Type} [Fintype ι] (f : ι → EReal) (k : ℕ) (v : EReal) : Prop :=
  (∃ i, v = f i) ∧ ∀ t, k ≤ (Finset.univ.filter fun i => t < f i).card ↔ t < v

theorem IsKth.unique {ι : Type} [Fintype ι] {f : ι → EReal} {k : ℕ} {v v' : EReal} (h : IsKth f k v) (h' : IsKth f k v') :
    v = v' := by
  refine le_antisymm (not_lt.mp fun hl => ?_) (not_lt.mp fun hl => ?_)
  · exact lt_irrefl _ ((h'.2 v').mp ((h.2 v').mpr hl))
  · exact lt_irrefl _ ((h.2 v).mp ((h'.2 v).mpr hl))

/-- The count as a sum of the comparisons' results. -/
theorem sum_indicator {ι : Type} [Fintype ι] (p : ι → Prop) [DecidablePred p] :
    ∑ i, (if p i then (1 : EReal) else 0) = (((Finset.univ.filter p).card : ℝ) : EReal) := by
  have : ∀ i, (if p i then (1 : EReal) else 0) = ((if p i then (1 : ℝ) else 0 : ℝ) : EReal) := fun i => by
    split
    · rfl
    · rfl
  rw [Finset.sum_congr rfl fun i _ => this i, coe_sum, Finset.sum_boole]

end Cert.Proof

end
-- ==== Proof.Spec.lean ====
/- What the block computes of one batch entry, over the reals. -/
module

public import proofs.«01_k».proof.Proof.Reals

@[expose] public section

noncomputable section

namespace Cert.Proof

open Idealize.ShloMosaic

/-- How many of a context row's entries each of the four masks keeps. -/
def kept : Fin 4 → ℕ := ![192, 256, 288, 307]

/-- The arguments of one batch entry, as reals but for the last layer norm's scale and shift. -/
structure Inputs where
  x1 : Fin 1024 → Fin 384 → ℝ
  x2 : Fin 1024 → Fin 384 → ℝ
  g1 : Fin 384 → ℝ
  b1 : Fin 384 → ℝ
  w : Fin 768 → Fin 384 → ℝ
  b : Fin 768 → ℝ
  g2 : Fin 768 → EReal
  b2 : Fin 768 → EReal
  a : Fin 4 → ℝ

namespace Inputs

variable (I : Inputs)

def n1 (n : Fin 1024) : Fin 384 → ℝ := norm (I.x1 n) I.g1 I.b1

def n2 (n : Fin 1024) : Fin 384 → ℝ := norm (I.x2 n) I.g1 I.b1

/-- The keys: softmax over the tokens. -/
def key (d : Fin 384) : Fin 1024 → ℝ := soft fun n => I.n2 n d

/-- The queries: softmax over the channels. -/
def query (n : Fin 1024) : Fin 384 → ℝ := soft (I.n2 n)

def context (d e : Fin 384) : ℝ := ∑ n, I.key d n * I.n1 n e

/-- The `j`-th mask keeps the entries of a row not below the least binary32 number that is not below the row's `k`-th greatest
    entry, `v j d`. -/
def keeps (v : Fin 4 → Fin 384 → EReal) (j : Fin 4) (d e : Fin 384) : Prop := atLeast (v j d) ≤ (I.context d e : EReal)

/-- The `j`-th attention: softmax over the entries kept. -/
def attention (v : Fin 4 → Fin 384 → EReal) (j : Fin 4) (d : Fin 384) : Fin 384 → ℝ := softOn (I.keeps v j d) (I.context d)

def attended (v : Fin 4 → Fin 384 → EReal) (d : Fin 384) (n : Fin 1024) : ℝ :=
  ∑ j, I.a j * ∑ e, I.attention v j d e * I.query n e

def rep (v : Fin 4 → Fin 384 → EReal) (n : Fin 1024) (o : Fin 768) : ℝ := ∑ d, I.w o d * I.attended v d n + I.b o

def out (v : Fin 4 → Fin 384 → EReal) (n : Fin 1024) (o : Fin 768) : EReal := (unit (I.rep v n) o : EReal) * I.g2 o + I.b2 o

/-- `v` holds the rows' `k`-th greatest entries. -/
def Greatest (v : Fin 4 → Fin 384 → EReal) : Prop := ∀ j d, IsKth (fun e => (I.context d e : EReal)) (kept j) (v j d)

theorem Greatest.ne_bot {I : Inputs} {v : Fin 4 → Fin 384 → EReal} (h : I.Greatest v) (j : Fin 4) (d : Fin 384) : v j d ≠ ⊥ := by
  obtain ⟨i, hi⟩ := (h j d).1
  rw [hi]
  exact EReal.coe_ne_bot _

/-- The context's entries are binary32-sized if the first layer norm's scale and shift are. -/
theorem Greatest.le {I : Inputs} {v : Fin 4 → Fin 384 → EReal} (h : I.Greatest v) {B : ℝ} (hB : B ≤ 11 * 10 ^ 36)
    (hg : ∀ c, |I.g1 c| ≤ B) (hb : ∀ c, |I.b1 c| ≤ B) (j : Fin 4) (d : Fin 384) : v j d ≤ num 0x7F7FFFFF#32 := by
  obtain ⟨e, he⟩ := (h j d).1
  have h1 : ∀ n, |I.n1 n e| ≤ 20 * (11 * 10 ^ 36) + 11 * 10 ^ 36 := fun n => by
    refine (abs_norm_le (by norm_num) (I.x1 n) I.g1 I.b1 e).trans (add_le_add ?_ ((hb e).trans hB))
    refine mul_le_mul ?_ ((hg e).trans hB) (abs_nonneg _) (by norm_num)
    rw [Real.sqrt_le_left (by norm_num)]
    norm_num
  have h2 := abs_sum_soft_mul_le (fun n => I.n2 n d) (fun n => I.n1 n e) h1
  rw [he, num_greatest, EReal.coe_le_coe_iff]
  refine (le_abs_self _).trans (h2.trans ?_)
  norm_num

end Inputs

end Cert.Proof

end
-- ==== Proof.Args.lean ====
/- The arguments' reals, batch entry by batch entry, and the result they give. -/
module

public import proofs.«01_k».proof.Proof.Spec
public import Idealize.ShloMosaic.Lib.Pointwise

@[expose] public section

noncomputable section

namespace Cert.Proof

open Idealize.ShloMosaic

/-- The nine argument arrays. -/
structure Args where
  x1 : FVec Ideal ⟨4, ![8, 32, 32, 384]⟩ .f32
  x2 : FVec Ideal ⟨4, ![8, 32, 32, 384]⟩ .f32
  g1 : FVec Ideal ⟨1, ![384]⟩ .f32
  b1 : FVec Ideal ⟨1, ![384]⟩ .f32
  w : FVec Ideal ⟨2, ![768, 384]⟩ .f32
  b : FVec Ideal ⟨1, ![768]⟩ .f32
  g2 : FVec Ideal ⟨1, ![768]⟩ .f32
  b2 : FVec Ideal ⟨1, ![768]⟩ .f32
  a : FVec Ideal ⟨1, ![4]⟩ .f32

/-- An array of reals. -/
def Finite {s : Shape} (x : FVec Ideal s .f32) : Prop := ∀ i, x i = ((EReal.toReal (x i) : ℝ) : EReal)

/-- Finite arguments but for the last layer norm's scale and shift; the first's within a bound. -/
structure Args.Good (A : Args) : Prop where
  x1 : Finite A.x1
  x2 : Finite A.x2
  g1 : Finite A.g1
  b1 : Finite A.b1
  w : Finite A.w
  b : Finite A.b
  a : Finite A.a
  g1_le : ∀ c, |EReal.toReal (A.g1 (ix1 c))| ≤ 11 * 10 ^ 36
  b1_le : ∀ c, |EReal.toReal (A.b1 (ix1 c))| ≤ 11 * 10 ^ 36

theorem row_lt (n : Fin 1024) : (n : ℕ) / 32 < 32 := by omega

theorem col_lt (n : Fin 1024) : (n : ℕ) % 32 < 32 := by omega

/-- The arguments of batch entry `p`. -/
def Args.at (A : Args) (p : Fin 8) : Inputs where
  x1 n c := EReal.toReal (A.x1 (ix4 p ⟨n / 32, row_lt n⟩ ⟨n % 32, col_lt n⟩ c))
  x2 n c := EReal.toReal (A.x2 (ix4 p ⟨n / 32, row_lt n⟩ ⟨n % 32, col_lt n⟩ c))
  g1 c := EReal.toReal (A.g1 (ix1 c))
  b1 c := EReal.toReal (A.b1 (ix1 c))
  w o d := EReal.toReal (A.w (ix2 o d))
  b o := EReal.toReal (A.b (ix1 o))
  g2 o := A.g2 (ix1 o)
  b2 o := A.b2 (ix1 o)
  a j := EReal.toReal (A.a (ix1 j))

/-- The result, the rows' `k`-th greatest entries given. -/
def Args.result (A : Args) (v : Fin 8 → Fin 4 → Fin 384 → EReal) : FVec Ideal ⟨3, ![8, 768, 1024]⟩ .f32 :=
  fun i => (A.at (i 0)).out (v (i 0)) (i 2) (i 1)

end Cert.Proof

end
-- ==== Proof.Precondition.lean ====
/- What the precondition says of the arguments: finite, the first layer norm's scale and shift within a bound. -/
module

public import proofs.«01_k».proof.Defs
public import proofs.«01_k».proof.Proof.Args
public import proofs.«01_k».proof.Proof.Gen.Pre_finite_and_bounded
public import Idealize.ShloMosaic.Lib.ReduceAll

@[expose] public section

noncomputable section

namespace Cert.Proof

open Idealize.ShloMosaic Idealize.SL.Sem

instance : Subsingleton (⟨0, ![]⟩ : Shape).Idx := ⟨fun a b => funext fun i => i.elim0⟩

/-- A number below the infinity in size is a real. -/
theorem real_of_size_lt {x : EReal} (h : max x (-x) < ⊤) : x = ((EReal.toReal x : ℝ) : EReal) := by
  obtain ⟨h1, h2⟩ := max_lt_iff.mp h
  refine (EReal.coe_toReal h1.ne fun hb => ?_).symm
  rw [hb, EReal.neg_bot] at h2
  exact lt_irrefl _ h2

theorem ofBool_decide_eq_one {p : Prop} [Decidable p] (h : BitVec.ofBool (decide p) = 1#1) : p := by
  by_contra hp
  rw [decide_eq_false hp] at h
  exact absurd h (by decide)

variable {s u : Shape}

/-- An array all of whose elements are below the infinity in size. -/
theorem finite_of_all {axes : List (Fin s.rank)} (x : FVec Ideal s .f32) (hb : (⟨0, ![]⟩ : Shape).BroadcastsInDim s ![])
    (init : u.Idx → BitVec 1) (h : s.ReducesTo axes ⟨0, ![]⟩) (hu : 0 < u.numel) (j : (⟨0, ![]⟩ : Shape).Idx)
    (e : Host.reduce IntOp.andi (cmpf .olt (Host.absf x) (broadcastInDim s ![] hb (constant ⟨0, ![]⟩ .f32 0x7F800000#32))) init h hu j
      = 1#1) : Finite x := fun i => by
  have := Host.reduce_andi_all _ _ _ _ _ e i
  have h2 : max (x i) (-(x i)) < Ideal.ofBits .f32 0x7F800000#32 := ofBool_decide_eq_one this
  exact real_of_size_lt (lt_of_lt_of_eq h2 (by simp [Ideal.ofBits, Ideal.ieee]))

/-- An array all of whose elements are within the bound. -/
theorem bounded_of_all {axes : List (Fin s.rank)} (x : FVec Ideal s .f32) (hb : (⟨0, ![]⟩ : Shape).BroadcastsInDim s ![])
    (init : u.Idx → BitVec 1) (h : s.ReducesTo axes ⟨0, ![]⟩) (hu : 0 < u.numel) (j : (⟨0, ![]⟩ : Shape).Idx)
    (e : Host.reduce IntOp.andi (cmpf .ole (Host.absf x) (broadcastInDim s ![] hb (constant ⟨0, ![]⟩ .f32 0x7CF0BDC2#32))) init h hu j
      = 1#1) : Finite x ∧ ∀ i, |EReal.toReal (x i)| ≤ 11 * 10 ^ 36 := by
  have hw : Ideal.ofBits .f32 0x7CF0BDC2#32 ≤ ((11 * 10 ^ 36 : ℝ) : EReal) := by
    simp [Ideal.ofBits, Ideal.ieee, -EReal.coe_mul]
    norm_cast
  have hle : ∀ i, max (x i) (-(x i)) ≤ ((11 * 10 ^ 36 : ℝ) : EReal) := fun i =>
    le_trans (ofBool_decide_eq_one (Host.reduce_andi_all _ _ _ _ _ e i)) hw
  have hf : Finite x := fun i => real_of_size_lt (lt_of_le_of_lt (hle i) (EReal.coe_lt_top _))
  refine ⟨hf, fun i => ?_⟩
  have := hle i
  rw [hf i, max_le_iff, ← EReal.coe_neg, EReal.coe_le_coe_iff, EReal.coe_le_coe_iff] at this
  exact abs_le'.mpr this

theorem good_of_pre (A : Args)
    (h : Cert.Pre_finite_and_bounded.fn (F := Ideal) A.x1 A.x2 A.g1 A.b1 A.w A.b A.g2 A.b2 A.a = fun _ => 1#1) : A.Good := by
  have h := congrFun h ix0
  unfold Cert.Pre_finite_and_bounded.fn Cert.Pre_finite_and_bounded.fn_part1 at h
  obtain ⟨h, hb1⟩ := IntOp.andi_eq_one.1 h
  obtain ⟨h, hg1⟩ := IntOp.andi_eq_one.1 h
  obtain ⟨h, ha⟩ := IntOp.andi_eq_one.1 h
  obtain ⟨h, hb⟩ := IntOp.andi_eq_one.1 h
  obtain ⟨h, hw⟩ := IntOp.andi_eq_one.1 h
  obtain ⟨hx1, hx2⟩ := IntOp.andi_eq_one.1 h
  have hg1 := bounded_of_all _ _ _ _ _ _ hg1
  have hb1 := bounded_of_all _ _ _ _ _ _ hb1
  exact {
    x1 := finite_of_all _ _ _ _ _ _ hx1
    x2 := finite_of_all _ _ _ _ _ _ hx2
    g1 := hg1.1
    b1 := hb1.1
    w := finite_of_all _ _ _ _ _ _ hw
    b := finite_of_all _ _ _ _ _ _ hb
    a := finite_of_all _ _ _ _ _ _ ha
    g1_le := fun c => hg1.2 _
    b1_le := fun c => hb1.2 _ }

end Cert.Proof

end
-- ==== Proof.Search.lean ====
/- The kernel's search for the thresholds, as one step iterated: four searches over the sortable words of binary32,
   each of thirty-one halvings after the sign. -/
module

public import proofs.«01_k».proof.Proof.Gen.KernelIdeal.Frame

@[expose] public section

noncomputable section

namespace Cert.Proof

open Idealize.ShloMosaic Idealize.SL.Sem Cert.KernelIdeal Cert.KernelIdeal.Gen

variable {F : FTy → Type} [FloatOps F]

/-- The middle of two words, rounded down, without overflow. -/
def midV (lo hi : IVec S384x1 32) : IVec S384x1 32 :=
  addi (andi lo hi) (shrsi (xori lo hi) (broadcast S384x1 1#32))

/-- The bit pattern of the binary32 number a sortable word stands for. -/
def patV {s : Shape} (w : IVec s 32) : IVec s 32 :=
  select (cmpi .slt w (broadcast s 0#32)) (xori w (broadcast s 2147483647#32)) w

/-- Row by row: do at least `k` entries of `ctx` exceed `t`? -/
def reachV (ctx : FVec F S384x384 .f32) (k : BitVec 32) (t : FVec F S384x384 .f32) : IVec S384x1 1 :=
  cmpf .oge
    (matmul dot_S384x384_S384x1_S384x1_1_0_0_1_n_n none
      (truncf .bf16 (sitofp .f32 (extui 32 (cmpf .ogt ctx t) natLt_1_32) : FVec F S384x384 .f32) bitsLt_bf16_f32)
      (k0_pay21 (F := F)) (constant S384x1 .f32 0x00000000#32))
    (broadcast S384x1 (Scalar.ofBits .f32 k : F .f32))

/-- `reachV` at the number of a sortable word. -/
def reachAtV (ctx : FVec F S384x384 .f32) (k : BitVec 32) (w : IVec S384x1 32) : IVec S384x1 1 :=
  reachV ctx k (broadcastTo S384x384 (bitcastToFloat .f32 (patV w)) broadcasts_S384x1_S384x384)

/-- The first split: by the sign. -/
def startV (ctx : FVec F S384x384 .f32) (k : BitVec 32) : IVec S384x1 32 × IVec S384x1 32 :=
  let p := reachV ctx k (broadcast S384x384 (Scalar.ofBits .f32 0x80000000#32 : F .f32))
  (select p (broadcast S384x1 0#32) (broadcast S384x1 2147483648#32),
    select p (broadcast S384x1 2147483647#32) (broadcast S384x1 4294967295#32))

/-- One halving. -/
def stepV (ctx : FVec F S384x384 .f32) (k : BitVec 32) (q : IVec S384x1 32 × IVec S384x1 32) :
    IVec S384x1 32 × IVec S384x1 32 :=
  (select (reachAtV ctx k (midV q.1 q.2)) (addi (midV q.1 q.2) (broadcast S384x1 1#32)) q.1,
    select (reachAtV ctx k (midV q.1 q.2)) q.2 (midV q.1 q.2))

/-- The word found after thirty-one halvings. -/
def foundV (ctx : FVec F S384x384 .f32) (k : BitVec 32) : IVec S384x1 32 :=
  ((stepV ctx k)^[31] (startV ctx k)).1

/-- The four words found, one below the other. -/
def foundsV (ctx : FVec F S384x384 .f32) : IVec S4x384x1 32 :=
  concatenate S4x384x1 0
    [⟨S1x384x1, shapeCast S1x384x1 (foundV ctx 0x43400000#32) shapeCasts_S384x1_S1x384x1⟩,
      ⟨S1x384x1, shapeCast S1x384x1 (foundV ctx 0x43800000#32) shapeCasts_S384x1_S1x384x1⟩,
      ⟨S1x384x1, shapeCast S1x384x1 (foundV ctx 0x43900000#32) shapeCasts_S384x1_S1x384x1⟩,
      ⟨S1x384x1, shapeCast S1x384x1 (foundV ctx 0x43998000#32) shapeCasts_S384x1_S1x384x1⟩]
    concatenates_S1x384x1_S1x384x1_S1x384x1_S1x384x1_S4x384x1_d0

section
variable (c : Dev nD) (arg1 : Memref sig .tc .vmem S1x32x32x384 .f32) (harg1 : arg1.IsWhole)
  (arg2 : Memref sig .tc .vmem S1x32x32x384 .f32) (harg2 : arg2.IsWhole)
  (arg3 : Memref sig .tc .vmem S1x384 .f32) (harg3 : arg3.IsWhole)
  (arg4 : Memref sig .tc .vmem S1x384 .f32) (harg4 : arg4.IsWhole)
  (x0 : Vec F S1x32x32x384 .f32) (x1 : Vec F S1x32x32x384 .f32) (x2 : Vec F S1x384 .f32) (x3 : Vec F S1x384 .f32)

set_option maxRecDepth 100000 in
theorem thresholds_eq :
    kernelRun0_A.sl.r_372 c arg1 harg1 arg2 harg2 arg3 harg3 arg4 harg4 x0 x1 x2 x3
      = patV (foundsV (kernelRun0_A.sl.r_7 c arg1 harg1 arg2 harg2 arg3 harg3 arg4 harg4 x0 x1 x2 x3)) := by
  rfl
end

end Cert.Proof

end
-- ==== Proof.Kth.lean ====
/- The `k`-th greatest entry of a row, as the host's sort finds it: how many entries exceed a number says on which side of that
   entry the number lies. -/
module

public import proofs.«01_k».proof.Proof.Reals
public import Idealize.ShloMosaic.Lib.SortFacts
public import Idealize.ShloMosaic.Lib.Pointwise

@[expose] public section

noncomputable section

namespace Cert.Proof

open Idealize.ShloMosaic

/-- The entry at place `k - 1` of an arrangement from greatest to least is the `k`-th greatest. -/
theorem isKth_of_arranged {n : ℕ} (f : Fin n → EReal) (σ : Fin n → Fin n) (hi : Function.Injective σ)
    (hs : Function.Surjective σ) (h : ∀ i j, i < j → ¬f (σ i) < f (σ j)) (k : Fin n) : IsKth f (k + 1) (f (σ k)) := by
  refine ⟨⟨_, rfl⟩, fun t => ⟨fun hc => ?_, fun ht => ?_⟩⟩
  · by_contra hn
    have hsub : (Finset.univ.filter fun i => t < f i) ⊆ (Finset.Iio k).image σ := by
      intro e he
      obtain ⟨i, rfl⟩ := hs e
      rw [Finset.mem_filter] at he
      refine Finset.mem_image_of_mem σ (Finset.mem_Iio.mpr (not_le.mp fun hk => ?_))
      rcases hk.lt_or_eq with hk | rfl
      · exact hn (he.2.trans_le (not_lt.mp (h k i hk)))
      · exact hn he.2
    have := (Finset.card_le_card hsub).trans Finset.card_image_le
    rw [Fin.card_Iio] at this
    omega
  · have hsub : (Finset.Iic k).image σ ⊆ Finset.univ.filter fun i => t < f i := by
      intro e he
      obtain ⟨i, hik, rfl⟩ := Finset.mem_image.mp he
      rw [Finset.mem_filter]
      refine ⟨Finset.mem_univ _, ?_⟩
      rcases (Finset.mem_Iic.mp hik).lt_or_eq with hk | rfl
      · exact ht.trans_le (not_lt.mp (h i k hk))
      · exact ht
    have := Finset.card_le_card hsub
    rwa [Finset.card_image_of_injective _ hi, Fin.card_Iic] at this

/-- The last of the `k` greatest along the last axis is the `k`-th greatest of the row. -/
theorem isKth_topK {a b n k : ℕ} (x : FVec Ideal ⟨3, ![a, b, n]⟩ .f32)
    (h : (⟨3, ![a, b, n]⟩ : Shape).Slices (fun _ => 0) ⟨3, ![a, b, k]⟩) (i : Fin a) (j : Fin b) (l : Fin k) (hl : (l : ℕ) < n) :
    IsKth (fun e => x (ix3 i j e)) (l + 1)
      ((Host.topK ⟨3, ![a, b, k]⟩ 2 (FloatOps.cmpfTotal (F := Ideal) .gt) x h).1 (ix3 i j l)) := by
  let R : Fin n → Fin n → Bool := fun e e' => FloatOps.cmpfTotal (F := Ideal) (φ := .f32) .gt (x (ix3 i j e)) (x (ix3 i j e')) == 1#1
  have hR : ∀ e e', R e e' = decide (x (ix3 i j e') < x (ix3 i j e)) := fun e e' => by
    change (BitVec.ofBool (decide (x (ix3 i j e') < x (ix3 i j e))) == 1#1) = _
    cases decide (x (ix3 i j e') < x (ix3 i j e)) <;> rfl
  have ha : ∀ e : Fin n, Shape.Idx.along (s := ⟨3, ![a, b, n]⟩) (ix3 i j ⟨l, hl⟩) 2 e = ix3 i j e := fun e => by
    funext z
    fin_cases z <;> rfl
  have key : (Host.topK ⟨3, ![a, b, k]⟩ 2 (FloatOps.cmpfTotal (F := Ideal) .gt) x h).1 (ix3 i j l)
      = x (ix3 i j (sortedFrom R ⟨l, hl⟩)) := by
    have hidx : (fun z => ⟨0 + ((ix3 i j l : (⟨3, ![a, b, k]⟩ : Shape).Idx) (z.cast h.1.symm)).val,
        Nat.lt_of_lt_of_le (Nat.add_lt_add_left (Fin.isLt _) _) (h.2 z)⟩ : (⟨3, ![a, b, n]⟩ : Shape).Idx)
        = ix3 i j ⟨l, hl⟩ := by
      funext z
      fin_cases z <;> exact Fin.ext (Nat.zero_add _)
    unfold Host.topK extractStridedSlice Host.sort2
    simp only []
    rw [hidx, dif_pos (show 2 < (⟨3, ![a, b, n]⟩ : Shape).rank from Nat.lt_succ_self 2)]
    have hrel : (fun e e' : Fin n => FloatOps.cmpfTotal (F := Ideal) (φ := .f32) .gt
        (x (Shape.Idx.along (s := ⟨3, ![a, b, n]⟩) (ix3 i j ⟨l, hl⟩) 2 e))
        (x (Shape.Idx.along (s := ⟨3, ![a, b, n]⟩) (ix3 i j ⟨l, hl⟩) 2 e')) == 1#1) = R := by
      funext e e'
      rw [ha, ha]
    exact (congrArg x (ha _)).trans (congrArg (fun r => x (ix3 i j (sortedFrom r ⟨l, hl⟩))) hrel)
  rw [key]
  refine isKth_of_arranged (fun e => x (ix3 i j e)) (sortedFrom R) (sortedFrom_injective R) (sortedFrom_surjective R)
    (fun p q hpq => ?_) ⟨l, hl⟩
  have := sortedFrom_noInversion R R (fun p q hpq => ?_) (fun _ _ e => e) (fun p q r hpq hqr => ?_) p q hpq
  · rw [hR] at this
    exact of_decide_eq_false this
  · rw [hR] at hpq ⊢
    exact decide_eq_false (not_lt.mpr (of_decide_eq_true hpq).le)
  · rw [hR] at hpq hqr ⊢
    exact decide_eq_false (not_lt.mpr ((not_lt.mp (of_decide_eq_false hpq)).trans (not_lt.mp (of_decide_eq_false hqr))))

end Cert.Proof

end
-- ==== Proof.Thresholds.lean ====
/- The kernel's thresholds: each row's search ends at the least binary32 number not below the row's `k`-th greatest entry. -/
module

public import proofs.«01_k».proof.Proof.Search
public import proofs.«01_k».proof.Proof.Kth

@[expose] public section

noncomputable section

namespace Cert.Proof

open Idealize.ShloMosaic Idealize.SL.Sem Cert.KernelIdeal Cert.KernelIdeal.Gen

/-- A condition, widened and converted, is one or zero. -/
theorem mask_value (p : Prop) [Decidable p] :
    (FloatOps.sitofp .f32 (BitVec.setWidth 32 (BitVec.ofBool (decide p))) : Ideal .f32) = if p then (1 : EReal) else 0 := by
  change (((BitVec.setWidth 32 (BitVec.ofBool (decide p))).toInt : ℝ) : EReal) = _
  by_cases h : p
  · rw [if_pos h, decide_eq_true h]
    have : (BitVec.setWidth 32 (BitVec.ofBool true)).toInt = 1 := by decide
    rw [this]
    simp
  · rw [if_neg h, decide_eq_false h]
    have : (BitVec.setWidth 32 (BitVec.ofBool false)).toInt = 0 := by decide
    rw [this]
    simp

theorem middle_value (lo hi : BitVec 32) :
    IntOp.addi (IntOp.andi lo hi) (IntOp.shrsi ArithUnit.vector (IntOp.xori lo hi) 1#32) = midW lo hi := rfl

theorem pattern_value (w : BitVec 32) :
    Scalar.select (IntOp.cmpi .slt w 0#32) (IntOp.xori w 2147483647#32) w = patW w := by
  unfold patW
  change (if BitVec.ofBool (w.slt 0#32) = 1#1 then w ^^^ 2147483647#32 else w) = _
  cases w.slt 0#32 <;> rfl

variable (ctx : FVec Ideal S384x384 .f32) (kw : BitVec 32) (d : Fin 384)

/-- Do at least as many entries of row `d` exceed `t` as the number of `kw`? -/
def Reach (t : EReal) : Prop := Ideal.ofBits .f32 kw ≤ ∑ x, (if t < ctx (ix2 d x) then (1 : EReal) else 0)

open Classical in
/-- One halving, of a row. -/
def stepRow (q : BitVec 32 × BitVec 32) : BitVec 32 × BitVec 32 :=
  (if Reach ctx kw d (num (midW q.1 q.2)) then midW q.1 q.2 + 1#32 else q.1,
    if Reach ctx kw d (num (midW q.1 q.2)) then q.2 else midW q.1 q.2)

/-- Row `d` of a pair of columns. -/
def row (q : IVec S384x1 32 × IVec S384x1 32) : BitVec 32 × BitVec 32 := (q.1 (ix2 d 0), q.2 (ix2 d 0))

theorem row_step (q : IVec S384x1 32 × IVec S384x1 32) : row d (stepV ctx kw q) = stepRow ctx kw d (row d q) := by
  refine Prod.ext ?_ ?_
  · change (stepV ctx kw q).1 (ix2 d 0) = _
    pointwise [stepV, reachAtV, reachV, midV, patV, k0_pay21]
    simp only [middle_value, pattern_value, mask_value]
    unfold stepRow Reach row num fl
    simp only []
    congr
  · change (stepV ctx kw q).2 (ix2 d 0) = _
    pointwise [stepV, reachAtV, reachV, midV, patV, k0_pay21]
    simp only [middle_value, pattern_value, mask_value]
    unfold stepRow Reach row num fl
    simp only []

open Classical in
theorem row_start : row d (startV ctx kw)
    = (if Reach ctx kw d 0 then 0#32 else 2147483648#32, if Reach ctx kw d 0 then 2147483647#32 else 4294967295#32) := by
  refine Prod.ext ?_ ?_
  · change (startV ctx kw).1 (ix2 d 0) = _
    pointwise [startV, reachV, k0_pay21]
    simp only [mask_value, word_negzero]
    unfold Reach
    congr
  · change (startV ctx kw).2 (ix2 d 0) = _
    pointwise [startV, reachV, k0_pay21]
    simp only [mask_value, word_negzero]
    unfold Reach
    congr

/-- The number found in a row is the least binary32 number not below the row's `k`-th greatest entry. -/
theorem found_eq {k : ℕ} (hk : Ideal.ofBits .f32 kw = ((k : ℝ) : EReal)) {v : EReal} (hv : IsKth (fun x => ctx (ix2 d x)) k v)
    (hb : v ≠ ⊥) (hm : v ≤ num 0x7F7FFFFF#32) : num (foundV ctx kw (ix2 d 0)) = atLeast v := by
  have hreach : ∀ t, Reach ctx kw d t ↔ ¬v ≤ t := fun t => by
    unfold Reach
    rw [hk, sum_indicator, EReal.coe_le_coe_iff, Nat.cast_le, hv.2 t, not_le]
  have hrow : foundV ctx kw (ix2 d 0) = ((stepRow ctx kw d)^[31] (row d (startV ctx kw))).1 := by
    have := (Function.Semiconj.iterate_right (f := row d) (ga := stepV ctx kw) (gb := stepRow ctx kw d)
      (fun q => row_step ctx kw d q) 31) (startV ctx kw)
    rw [← this]
    rfl
  rw [hrow]
  refine search v hb hm _ (fun lo hi => ⟨fun h => ?_, fun h => ?_⟩) _ (fun h => ?_) (fun h => ?_)
  · have : ¬Reach ctx kw d (num (midW lo hi)) := fun hr => (hreach _).mp hr h
    unfold stepRow
    simp only []
    rw [if_neg this, if_neg this]
  · have := (hreach _).mpr h
    unfold stepRow
    simp only []
    rw [if_pos this, if_pos this]
  · have : ¬Reach ctx kw d 0 := fun hr => (hreach _).mp hr h
    rw [row_start, if_neg this, if_neg this]
  · rw [row_start, if_pos ((hreach _).mpr h), if_pos ((hreach _).mpr h)]

/-- The four columns one below the other. -/
theorem founds_eq (j : Fin 4) : patV (foundsV ctx) (ix3 j d 0)
    = patW (foundV ctx (![0x43400000#32, 0x43800000#32, 0x43900000#32, 0x43998000#32] j) (ix2 d 0)) := by
  have h : foundsV ctx (ix3 j d 0)
      = foundV ctx (![0x43400000#32, 0x43800000#32, 0x43900000#32, 0x43998000#32] j) (ix2 d 0) := by
    pointwise [foundsV]
    fin_cases j <;> rfl
  rw [← h]
  exact pattern_value _

end Cert.Proof

end
-- ==== Proof.Body.lean ====
/- One grid point's block: what the kernel's body computes of the values it reads. -/
module

public import proofs.«01_k».proof.Proof.Thresholds
public import proofs.«01_k».proof.Proof.Spec

@[expose] public section

noncomputable section

namespace Cert.Proof

open Idealize.ShloMosaic Idealize.SL.Sem Cert.KernelIdeal Cert.KernelIdeal.Gen

variable {I : Inputs} {x0 x1 : Vec Ideal S1x32x32x384 .f32} {x2 x3 : Vec Ideal S1x384 .f32} {x4 : Vec Ideal S768x384 .f32}
  {x5 x6 x7 : Vec Ideal S768x1 .f32}

/-- Token `n` is row `n / 32`, column `n % 32` of the image. -/
def IsImage (x : Vec Ideal S1x32x32x384 .f32) (X : Fin 1024 → Fin 384 → ℝ) : Prop :=
  ∀ (h w : Fin 32) (c : Fin 384) (n : Fin 1024), (n : ℕ) = 32 * h + w → x (ix4 0 h w c) = (X n c : EReal)

theorem IsImage.apply {x : Vec Ideal S1x32x32x384 .f32} {X : Fin 1024 → Fin 384 → ℝ} (h : IsImage x X) (n : Fin 1024)
    (c : Fin 384) (h1 : (n : ℕ) / 32 < 32) (h2 : (n : ℕ) % 32 < 32) : x (ix4 0 ⟨n / 32, h1⟩ ⟨n % 32, h2⟩ c) = (X n c : EReal) :=
  h _ _ c n (Nat.div_add_mod _ _).symm

/-- The values the body reads are the inputs. -/
structure Reads (I : Inputs) (x0 x1 : Vec Ideal S1x32x32x384 .f32) (x2 x3 : Vec Ideal S1x384 .f32)
    (x4 : Vec Ideal S768x384 .f32) (x5 x6 x7 : Vec Ideal S768x1 .f32) : Prop where
  h0 : IsImage x0 I.x1
  h1 : IsImage x1 I.x2
  h2 : ∀ c, x2 (ix2 0 c) = (I.g1 c : EReal)
  h3 : ∀ c, x3 (ix2 0 c) = (I.b1 c : EReal)
  h4 : ∀ o d, x4 (ix2 o d) = (I.w o d : EReal)
  h5 : ∀ o, x5 (ix2 o 0) = (I.b o : EReal)
  h6 : ∀ o, x6 (ix2 o 0) = I.g2 o
  h7 : ∀ o, x7 (ix2 o 0) = I.b2 o

variable (R : Reads I x0 x1 x2 x3 x4 x5 x6 x7)
include R

theorem n1_eq (n : Fin 1024) (c : Fin 384) : k0_pay5 x2 x3 x0 (ix2 n c) = (I.n1 n c : EReal) := by
  pointwise [k0_pay5, k0_pay2, k0_pay3]
  simp only [word_384, word_eps, R.h0.apply, R.h2, R.h3]
  exact norm_of_unit (unit_rsqrt (by norm_num) _ _) _ _

theorem n2_eq (n : Fin 1024) (c : Fin 384) :
    k0_pay9 (k0_pay2 x2) (k0_pay3 x3) (k0_pay4 x1) (k0_pay6 x1) (k0_pay7 x1) k0_pay8 (ix2 n c) = (I.n2 n c : EReal) := by
  pointwise [k0_pay9, k0_pay2, k0_pay3, k0_pay4, k0_pay6, k0_pay7, k0_pay8]
  simp only [word_384, word_eps, R.h1.apply, R.h2, R.h3]
  exact norm_of_unit (unit_rsqrt (by norm_num) _ _) _ _

/-- The greatest of a channel is some real. -/
theorem top_eq (c : Fin 384) : ∃ m : ℝ,
    k0_pay10 (k0_pay2 x2) (k0_pay3 x3) (k0_pay4 x1) (k0_pay6 x1) (k0_pay7 x1) k0_pay8 (ix2 0 c) = (m : EReal) := by
  pointwise [k0_pay10]
  simp only [n2_eq R, word_bot]
  exact fold_max_real _ _ (fun i _ => .inr ⟨_, rfl⟩) ⟨0, Finset.mem_univ _, _, rfl⟩

theorem query_eq (n : Fin 1024) (c : Fin 384) :
    k0_pay12 (k0_pay2 x2) (k0_pay3 x3) (k0_pay4 x1) (k0_pay6 x1) (k0_pay7 x1) k0_pay8 (ix2 n c) = (I.query n c : EReal) := by
  choose m hm using top_eq R
  pointwise [k0_pay12, k0_pay11]
  simp only [n2_eq R, hm]
  exact soft_mul (I.n2 n) m c

theorem context_eq (d e : Fin 384) :
    k0_pay13 (k0_pay2 x2) (k0_pay3 x3) (k0_pay4 x1) (k0_pay5 x2 x3 x0) (k0_pay6 x1) (k0_pay7 x1) k0_pay8 (ix2 d e)
      = (I.context d e : EReal) := by
  choose m hm using top_eq R
  have hs : ∀ (d : Fin 384) (n : Fin 1024), Ideal.div (Ideal.exp ((I.n2 n d : EReal) - (m d : EReal)))
      (∑ j, Ideal.exp ((I.n2 j d : EReal) - (m d : EReal))) = (I.key d n : EReal) := fun d n =>
    soft_sub (fun n => I.n2 n d) (m d) n
  pointwise [k0_pay13, k0_pay11]
  simp only [n2_eq R, n1_eq R, hm, hs, ← EReal.coe_mul, coe_sum]
  rfl

theorem exponential_eq (d : Fin 384) : ∃ m : ℝ, ∀ e,
    k0_pay14 (k0_pay2 x2) (k0_pay3 x3) (k0_pay4 x1) (k0_pay5 x2 x3 x0) (k0_pay6 x1) (k0_pay7 x1) k0_pay8 (ix2 d e)
      = Ideal.exp ((I.context d e : EReal) - (m : EReal)) := by
  obtain ⟨m, hm⟩ := fold_max_real Finset.univ (fun e => (I.context d e : EReal)) (fun i _ => .inr ⟨_, rfl⟩)
    ⟨0, Finset.mem_univ _, _, rfl⟩
  refine ⟨m, fun e => ?_⟩
  pointwise [k0_pay14]
  simp only [context_eq R, word_bot, hm]

omit R in
/-- The four weights, by their place. -/
theorem weight_eq (j : Fin 4) (a b c d : EReal) :
    Scalar.select (IntOp.cmpi .eq (k0_pay20 (4#32) k0_pay16 k0_pay17 k0_pay18 k0_pay19 (ix3 j 0 0)) 0#32) a
        (Scalar.select (IntOp.cmpi .eq (k0_pay20 (4#32) k0_pay16 k0_pay17 k0_pay18 k0_pay19 (ix3 j 0 0)) 1#32) b
          (Scalar.select (IntOp.cmpi .eq (k0_pay20 (4#32) k0_pay16 k0_pay17 k0_pay18 k0_pay19 (ix3 j 0 0)) 2#32) c d))
      = ![a, b, c, d] j := by
  have h : ∀ j : Fin 4, k0_pay20 (4#32) k0_pay16 k0_pay17 k0_pay18 k0_pay19 (ix3 j 0 0) = BitVec.ofNat 32 j := by
    intro j
    pointwise [k0_pay20, k0_pay16, k0_pay17, k0_pay18, k0_pay19]
    fin_cases j <;> decide
  rw [h]
  fin_cases j <;> rfl

theorem rep_eq (v : Fin 4 → Fin 384 → EReal) (hv : I.Greatest v) (hm : ∀ j d, v j d ≤ num 0x7F7FFFFF#32) {a0 a1 a2 a3 : EReal}
    (ha : ∀ j, ![a0, a1, a2, a3] j = (I.a j : EReal)) (o : Fin 768) (n : Fin 1024) :
    k0_pay587 (k0_pay12 (k0_pay2 x2) (k0_pay3 x3) (k0_pay4 x1) (k0_pay6 x1) (k0_pay7 x1) k0_pay8)
        (k0_pay14 (k0_pay2 x2) (k0_pay3 x3) (k0_pay4 x1) (k0_pay5 x2 x3 x0) (k0_pay6 x1) (k0_pay7 x1) k0_pay8)
        (k0_pay15 (k0_pay2 x2) (k0_pay3 x3) (k0_pay4 x1) (k0_pay5 x2 x3 x0) (k0_pay6 x1) (k0_pay7 x1) k0_pay8)
        (k0_pay20 (4#32) k0_pay16 k0_pay17 k0_pay18 k0_pay19)
        (patV (foundsV (k0_pay13 (k0_pay2 x2) (k0_pay3 x3) (k0_pay4 x1) (k0_pay5 x2 x3 x0) (k0_pay6 x1) (k0_pay7 x1) k0_pay8)))
        a0 a1 a2 a3 x4 x5 (ix2 o n) = (I.rep v n o : EReal) := by
  choose m hmx using exponential_eq R
  have hk : ∀ j : Fin 4, Ideal.ofBits .f32 (![0x43400000#32, 0x43800000#32, 0x43900000#32, 0x43998000#32] j)
      = ((kept j : ℝ) : EReal) := by
    intro j
    fin_cases j
    · exact word_192
    · exact word_256
    · exact word_288
    · exact word_307
  have hthr : ∀ j d, Ideal.ofBits .f32 (patV (foundsV (k0_pay13 (k0_pay2 x2) (k0_pay3 x3) (k0_pay4 x1) (k0_pay5 x2 x3 x0)
      (k0_pay6 x1) (k0_pay7 x1) k0_pay8)) (ix3 j d 0)) = atLeast (v j d) := fun j d => by
    rw [founds_eq]
    refine found_eq _ _ d (hk j) ?_ (hv.ne_bot j d) (hm j d)
    have := hv j d
    simp only [context_eq R]
    exact this
  have hctx : ∀ d e, k0_pay15 (k0_pay2 x2) (k0_pay3 x3) (k0_pay4 x1) (k0_pay5 x2 x3 x0) (k0_pay6 x1) (k0_pay7 x1) k0_pay8
      (ix3 0 d e) = (I.context d e : EReal) := fun d e => by
    pointwise [k0_pay15]
    exact context_eq R d e
  pointwise [k0_pay587]
  simp only [hthr, hctx, weight_eq, ha, mask_value, hmx, query_eq R, R.h4, R.h5]
  have hmix : ∀ (d e : Fin 384) [∀ j e, Decidable (atLeast (v j d) ≤ (I.context d e : EReal))],
      Ideal.exp ((I.context d e : EReal) - (m d : EReal)) * ∑ j, (if atLeast (v j d) ≤ (I.context d e : EReal) then (1 : EReal) else 0)
        * Ideal.div (I.a j : EReal) (∑ e', Ideal.exp ((I.context d e' : EReal) - (m d : EReal))
          * (if atLeast (v j d) ≤ (I.context d e' : EReal) then (1 : EReal) else 0))
      = ((∑ j, I.a j * I.attention v j d e : ℝ) : EReal) := fun d e _ =>
    softOn_mix' (fun j e => atLeast (v j d) ≤ (I.context d e : EReal)) (I.context d) (m d) I.a e
  simp only [hmix, ← EReal.coe_mul, coe_sum, ← EReal.coe_add]
  congr 1
  unfold Inputs.rep Inputs.attended
  congr 1
  refine Finset.sum_congr rfl fun d _ => ?_
  congr 1
  simp only [Finset.sum_mul, Finset.mul_sum]
  rw [Finset.sum_comm]
  refine Finset.sum_congr rfl fun j _ => Finset.sum_congr rfl fun e _ => ?_
  ring

/-- The block's last step: layer norm over the output channels. -/
theorem out_eq {v : Fin 4 → Fin 384 → EReal} {r : FVec Ideal S768x1024 .f32} (hr : ∀ o n, r (ix2 o n) = (I.rep v n o : EReal))
    (o : Fin 768) (n : Fin 1024) : k0_pay1 r x6 x7 (ix3 0 o n) = I.out v n o := by
  pointwise [k0_pay1]
  simp only [hr, word_768, word_eps, R.h6, R.h7]
  exact congrArg (fun x => x * I.g2 o + I.b2 o) (unit_rsqrt (by norm_num) (fun o => I.rep v n o) o)

end Cert.Proof

end
-- ==== Proof.Whole.lean ====
/- The kernel's result array: every grid point's block, put together. -/
module

public import proofs.«01_k».proof.Proof.Body
public import proofs.«01_k».proof.Proof.Args
public import proofs.«01_k».proof.Proof.Gen.KernelIdeal.Value
public import Idealize.ShloMosaic.Lib.Pipeline.Value
public import Idealize.ShloMosaic.Lib.Pipeline.ValueKit
public import Idealize.ShloMosaic.Lib.Claim

@[expose] public section

noncomputable section

namespace Cert.Proof

open Idealize.ShloMosaic Idealize.ShloMosaic.TcCoe Idealize.SL.Sem Cert.KernelIdeal Cert.KernelIdeal.Gen
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- What the body stores, as a function of what it reads. -/
def stored (x0 x1 : Vec Ideal S1x32x32x384 .f32) (x2 x3 : Vec Ideal S1x384 .f32) (x4 : Vec Ideal S768x384 .f32)
    (x5 x6 x7 : Vec Ideal S768x1 .f32) (x8 : Vec Ideal S4 .f32) : Vec Ideal S1x768x1024 .f32 :=
  k0_pay1
    (k0_pay587 (k0_pay12 (k0_pay2 x2) (k0_pay3 x3) (k0_pay4 x1) (k0_pay6 x1) (k0_pay7 x1) k0_pay8)
      (k0_pay14 (k0_pay2 x2) (k0_pay3 x3) (k0_pay4 x1) (k0_pay5 x2 x3 x0) (k0_pay6 x1) (k0_pay7 x1) k0_pay8)
      (k0_pay15 (k0_pay2 x2) (k0_pay3 x3) (k0_pay4 x1) (k0_pay5 x2 x3 x0) (k0_pay6 x1) (k0_pay7 x1) k0_pay8)
      (k0_pay20 (4#32) k0_pay16 k0_pay17 k0_pay18 k0_pay19)
      (patV (foundsV (k0_pay13 (k0_pay2 x2) (k0_pay3 x3) (k0_pay4 x1) (k0_pay5 x2 x3 x0) (k0_pay6 x1) (k0_pay7 x1) k0_pay8)))
      (x8 (ix1 0)) (x8 (ix1 1)) (x8 (ix1 2)) (x8 (ix1 3)) x4 x5) x6 x7

theorem out_stored (c : Dev nD) (i : grid0.Coords) (arg1 : Memref sig .tc .vmem S1x32x32x384 .f32) (harg1 : arg1.IsWhole)
    (arg2 : Memref sig .tc .vmem S1x32x32x384 .f32) (harg2 : arg2.IsWhole) (arg3 : Memref sig .tc .vmem S1x384 .f32)
    (harg3 : arg3.IsWhole) (arg4 : Memref sig .tc .vmem S1x384 .f32) (harg4 : arg4.IsWhole)
    (arg5 : Memref sig .tc .vmem S768x384 .f32) (harg5 : arg5.IsWhole) (arg6 : Memref sig .tc .vmem S768x1 .f32)
    (harg6 : arg6.IsWhole) (arg7 : Memref sig .tc .vmem S768x1 .f32) (harg7 : arg7.IsWhole)
    (arg8 : Memref sig .tc .vmem S768x1 .f32) (harg8 : arg8.IsWhole) (arg9 : Memref sig .tc .smem S4 .f32)
    (harg9 : arg9.IsWhole) (arg10 : Memref sig .tc .vmem S1x768x1024 .f32) (harg10 : arg10.IsWhole)
    (x0 x1 : Vec Ideal S1x32x32x384 .f32) (x2 x3 : Vec Ideal S1x384 .f32) (x4 : Vec Ideal S768x384 .f32)
    (x5 x6 x7 : Vec Ideal S768x1 .f32) (x8 : Vec Ideal S4 .f32) :
    out0_A_9 c i arg1 harg1 arg2 harg2 arg3 harg3 arg4 harg4 arg5 harg5 arg6 harg6 arg7 harg7 arg8 harg8 arg9 harg9 arg10 harg10
      x0 x1 x2 x3 x4 x5 x6 x7 x8 = stored x0 x1 x2 x3 x4 x5 x6 x7 x8 := by
  unfold out0_A_9
  rw [View.read_writes_junk_eq_canon]
  show View.canon ([⟨Rect.unit ![0, 0, 0] S1x768x1024.size _,
      k0_pay1 (kernelRun0_A.sl.r_377 c arg1 harg1 arg2 harg2 arg3 harg3 arg4 harg4 arg5 harg5 arg6 harg6 arg9 harg9 x0 x1 x2 x3 x4 x5 x8)
        (View.readAt (Elt Ideal) arg7.view (Rect.unit ![0, 0] S768x1.size inb_S768x1_S768x1_0_0).toLoadRect (harg7.unread x6))
        (View.readAt (Elt Ideal) arg8.view (Rect.unit ![0, 0] S768x1.size inb_S768x1_S768x1_0_0).toLoadRect (harg8.unread x7))⟩] :
      List (View.Piece (Elt Ideal) S1x768x1024 .f32)) = _
  rw [View.canon_unit_zero zero3]
  unfold kernelRun0_A.sl.r_377
  rw [thresholds_eq]
  unfold kernelRun0_A.sl.r_6 kernelRun0_A.sl.r_7 kernelRun0_A.sl.r_8 kernelRun0_A.sl.r_9 kernelRun0_A.sl.r_10 kernelRun0_A.sl.r
    kernelRun0_A.sl.r_1 kernelRun0_A.sl.r_2 kernelRun0_A.sl.r_3 kernelRun0_A.sl.r_4 kernelRun0_A.sl.r_5 kernelRun0_A.sl.r_373
    kernelRun0_A.sl.r_374 kernelRun0_A.sl.r_375 kernelRun0_A.sl.r_376
  simp only [View.readAt_eq_ld, harg1.read_unread, harg2.read_unread, harg3.read_unread, harg4.read_unread, harg5.read_unread,
    harg6.read_unread, harg7.read_unread, harg8.read_unread, harg9.read_unread,
    View.ld_unit_zero (S := S1x384) zero2, View.ld_unit_zero (S := S768x384) zero2, View.ld_unit_zero (S := S768x1) zero2,
    View.ld_unit_zero (S := S1x32x32x384) zero4]
  unfold stored
  congr 2 <;> exact congrArg x8 (funext fun a => by match a with | ⟨0, _⟩ => rfl)

variable (m : (ℓ : Loc nD τ sig) → Buf (Elt Ideal) ℓ) (c : Dev nD)

/-- The launch's arguments. -/
def kernelArgs : Args where
  x1 := m ((c : Thread nD τ).loc main_arg0)
  x2 := m ((c : Thread nD τ).loc main_arg1)
  g1 := m ((c : Thread nD τ).loc main_arg2)
  b1 := m ((c : Thread nD τ).loc main_arg3)
  w := m ((c : Thread nD τ).loc main_arg4)
  b := m ((c : Thread nD τ).loc main_arg5)
  g2 := m ((c : Thread nD τ).loc main_arg6)
  b2 := m ((c : Thread nD τ).loc main_arg7)
  a := m ((c : Thread nD τ).loc main_arg8)

theorem places : ∀ t : Fin grid0.N, win0_0.index t = ![t.val, 0, 0, 0] ∧ win0_1.index t = ![t.val, 0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0] ∧ win0_9.index t = ![t.val, 0, 0] := by
  decide +kernel

/-- The place of grid point `t`'s batch entry. -/
def entry (t : Fin cfg0.N) : Fin 8 := ⟨t.val, t.isLt⟩

/-- Grid point `t` reads batch entry `t`. -/
theorem reads (hG : (kernelArgs m c).Good) (t : Fin cfg0.N) : Reads ((kernelArgs m c).at (entry t))
    (iblk m c 0 t) (iblk m c 1 t) (iblk m c 2 t) (iblk m c 3 t) (iblk m c 4 t) (iblk m c 5 t) (iblk m c 6 t) (iblk m c 7 t) where
  h0 h w e n hn := by
    refine Eq.trans ?_ (hG.x1 _)
    blk_ext [iblk, V, places t, kernelArgs, entry]
  h1 h w e n hn := by
    refine Eq.trans ?_ (hG.x2 _)
    blk_ext [iblk, V, places t, kernelArgs, entry]
  h2 e := by
    refine Eq.trans ?_ (hG.g1 _)
    have he : ((cfg0.win 2).blk t).view.emb (ix2 0 e) = (ix2 0 e) := by blk_ext [places t]
    show V m c main_v0 (((cfg0.win 2).blk t).view.emb (ix2 0 e)) = m ((c : Thread nD τ).loc main_arg2) (ix1 e)
    rw [he]
    entry_read
    pointwise
  h3 e := by
    refine Eq.trans ?_ (hG.b1 _)
    have he : ((cfg0.win 3).blk t).view.emb (ix2 0 e) = (ix2 0 e) := by blk_ext [places t]
    show V m c main_v1 (((cfg0.win 3).blk t).view.emb (ix2 0 e)) = m ((c : Thread nD τ).loc main_arg3) (ix1 e)
    rw [he]
    entry_read
    pointwise
  h4 o d := by
    refine Eq.trans ?_ (hG.w _)
    blk_ext [iblk, V, places t, kernelArgs, entry]
  h5 o := by
    refine Eq.trans ?_ (hG.b _)
    have he : ((cfg0.win 5).blk t).view.emb (ix2 o 0) = (ix2 o 0) := by blk_ext [places t]
    show V m c main_v2 (((cfg0.win 5).blk t).view.emb (ix2 o 0)) = m ((c : Thread nD τ).loc main_arg5) (ix1 o)
    rw [he]
    entry_read
    pointwise
  h6 o := by
    have he : ((cfg0.win 6).blk t).view.emb (ix2 o 0) = (ix2 o 0) := by blk_ext [places t]
    show V m c main_v3 (((cfg0.win 6).blk t).view.emb (ix2 o 0)) = m ((c : Thread nD τ).loc main_arg6) (ix1 o)
    rw [he]
    entry_read
    pointwise
  h7 o := by
    have he : ((cfg0.win 7).blk t).view.emb (ix2 o 0) = (ix2 o 0) := by blk_ext [places t]
    show V m c main_v4 (((cfg0.win 7).blk t).view.emb (ix2 o 0)) = m ((c : Thread nD τ).loc main_arg7) (ix1 o)
    rw [he]
    entry_read
    pointwise

theorem final (hG : (kernelArgs m c).Good) (v : Fin 8 → Fin 4 → Fin 384 → EReal)
    (hv : ∀ p, ((kernelArgs m c).at p).Greatest (v p)) : (dats m 0 c).arrAt 9 cfg0.N = (kernelArgs m c).result v := by
  refine (dats m 0 c).arrAt_eq_of_covers 9 _ (by decide +kernel) fun t hf y => ?_
  have hw : ∀ j : Fin 4, iblk m c 8 t (ix1 j) = (((kernelArgs m c).at (entry t)).a j : EReal) := fun j => by
    refine Eq.trans ?_ (hG.a _)
    blk_ext [iblk, V, places t, kernelArgs, entry]
  have key : ∀ (o : Fin 768) (n : Fin 1024), outsAt0 m c t (ix3 0 o n)
      = ((kernelArgs m c).at (entry t)).out (v (entry t)) n o := fun o n => by
    unfold outsAt0
    rw [out_stored]
    unfold stored
    refine out_eq (reads m c hG t) (fun o n => ?_) o n
    refine rep_eq (reads m c hG t) _ (hv _) (fun j d => (hv _).le (le_refl _) hG.g1_le hG.b1_le j d) (fun j => ?_) o n
    fin_cases j <;> exact hw _
  obtain ⟨a, o, n, rfl⟩ : ∃ (a : Fin 1) (o : Fin 768) (n : Fin 1024), y = ix3 a o n := ⟨y 0, y 1, y 2, eq_ix3 y⟩
  obtain rfl : a = 0 := Subsingleton.elim _ _
  have he : (((cfg0.win 9).blk t).view.emb (ix3 0 o n) : S8x768x1024.Idx) = ix3 (entry t) o n := by blk_ext [places t, entry]
  rw [he]
  refine Eq.trans ?_ (key o n)
  blk_simp
  rw [after0_9]

end Cert.Proof

end
-- ==== Proof.Folds.lean ====
/- The reference's maxima and minima along an axis, and the mask it takes from the table of the binary32 numbers. -/
module

public import proofs.«01_k».proof.Proof.Kth
public import proofs.«01_k».proof.Proof.Gen.ReferenceIdeal.Run

@[expose] public section

set_option maxRecDepth 8192

noncomputable section

namespace Cert.Proof

open Idealize.ShloMosaic Idealize.SL.Sem Cert.ReferenceIdeal Cert.ReferenceIdeal.Gen Cert.ReferenceIdeal.Value

section Generic

variable {a b n : ℕ} {u : Shape}

theorem fold_last (op : EReal → EReal → EReal) [Std.Commutative op] [Std.Associative op] (x : FVec Ideal ⟨3, ![a, b, n]⟩ .f32)
    (init : FVec Ideal u .f32) (h : (⟨3, ![a, b, n]⟩ : Shape).ReducesTo [2] ⟨2, ![a, b]⟩) (hu : 0 < u.numel) (i : Fin a) (j : Fin b) :
    Host.reduce op x init h hu (ix2 i j) = (Finset.univ : Finset (Fin n)).fold op (init (Shape.Idx.first hu)) fun k => x (ix3 i j k) := by
  rw [Host.reduce_eq_fold, Shape.ReducesTo.fold_fiber_r3_a2]
  rfl

theorem fold_mid (op : EReal → EReal → EReal) [Std.Commutative op] [Std.Associative op] (x : FVec Ideal ⟨3, ![a, n, b]⟩ .f32)
    (init : FVec Ideal u .f32) (h : (⟨3, ![a, n, b]⟩ : Shape).ReducesTo [1] ⟨2, ![a, b]⟩) (hu : 0 < u.numel) (i : Fin a) (j : Fin b) :
    Host.reduce op x init h hu (ix2 i j) = (Finset.univ : Finset (Fin n)).fold op (init (Shape.Idx.first hu)) fun k => x (ix3 i k j) := by
  rw [Host.reduce_eq_fold, Shape.ReducesTo.fold_fiber_r3_a1]
  rfl

/-- The maximum along the last axis, of reals and `⊥`, is a real if one of them is. -/
theorem max_last_real (x : FVec Ideal ⟨3, ![a, b, n]⟩ .f32) (h : (⟨3, ![a, b, n]⟩ : Shape).ReducesTo [2] ⟨2, ![a, b]⟩)
    (hu : 0 < u.numel) (i : Fin a) (j : Fin b) (hx : ∀ k, (x (ix3 i j k) : EReal) = ⊥ ∨ ∃ r : ℝ, (x (ix3 i j k) : EReal) = r)
    (hs : ∃ k, ∃ r : ℝ, (x (ix3 i j k) : EReal) = r) : ∃ m : ℝ, max (Ideal.ofBits .f32 0xFF800000#32)
      (Host.reduce FloatOps.maximumf x (constant u .f32 0xFF800000#32) h hu (ix2 i j)) = (m : EReal) := by
  have hr := fold_last max x (constant u .f32 0xFF800000#32) h hu i j
  obtain ⟨k, hk⟩ := hs
  obtain ⟨m, hm⟩ := fold_max_real Finset.univ (fun k => (x (ix3 i j k) : EReal)) (fun k _ => hx k) ⟨k, Finset.mem_univ k, hk⟩
  refine ⟨m, ?_⟩
  rw [word_bot, max_eq_right bot_le]
  refine hr.trans (Eq.trans ?_ hm)
  exact congrArg (fun t => Finset.fold max t _ _) word_bot

/-- The maximum along the middle axis, of reals and `⊥`, is a real if one of them is. -/
theorem max_mid_real (x : FVec Ideal ⟨3, ![a, n, b]⟩ .f32) (h : (⟨3, ![a, n, b]⟩ : Shape).ReducesTo [1] ⟨2, ![a, b]⟩)
    (hu : 0 < u.numel) (i : Fin a) (j : Fin b) (hx : ∀ k, (x (ix3 i k j) : EReal) = ⊥ ∨ ∃ r : ℝ, (x (ix3 i k j) : EReal) = r)
    (hs : ∃ k, ∃ r : ℝ, (x (ix3 i k j) : EReal) = r) : ∃ m : ℝ, max (Ideal.ofBits .f32 0xFF800000#32)
      (Host.reduce FloatOps.maximumf x (constant u .f32 0xFF800000#32) h hu (ix2 i j)) = (m : EReal) := by
  have hr := fold_mid max x (constant u .f32 0xFF800000#32) h hu i j
  obtain ⟨k, hk⟩ := hs
  obtain ⟨m, hm⟩ := fold_max_real Finset.univ (fun k => (x (ix3 i k j) : EReal)) (fun k _ => hx k) ⟨k, Finset.mem_univ k, hk⟩
  refine ⟨m, ?_⟩
  rw [word_bot, max_eq_right bot_le]
  refine hr.trans (Eq.trans ?_ hm)
  exact congrArg (fun t => Finset.fold max t _ _) word_bot

/-- The least of the table's numbers that are not below `v`. -/
theorem fold_table (hn : n = 2 ^ 32) (v : EReal) :
    ((Finset.univ : Finset (Fin n)).fold min ⊤ fun k : Fin n => if v ≤ fl (BitVec.ofNat 32 k) then fl (BitVec.ofNat 32 k) else (⊤ : EReal))
      = atLeast v := by
  have h : ((Finset.univ : Finset (Fin n)).fold min ⊤ fun k : Fin n => if v ≤ fl (BitVec.ofNat 32 k) then fl (BitVec.ofNat 32 k) else (⊤ : EReal))
      = Finset.univ.inf fun k : Fin n => if v ≤ fl (BitVec.ofNat 32 k) then fl (BitVec.ofNat 32 k) else (⊤ : EReal) := rfl
  rw [h, Finset.inf_univ_eq_iInf]
  refine le_antisymm (le_iInf fun w => ?_) (le_iInf fun k => ?_)
  · refine (iInf_le _ (⟨w.toNat, lt_of_lt_of_eq w.isLt hn.symm⟩ : Fin n)).trans (le_of_eq ?_)
    have hw : BitVec.ofNat 32 w.toNat = w := BitVec.eq_of_toNat_eq (by rw [BitVec.toNat_ofNat]; exact Nat.mod_eq_of_lt w.isLt)
    simp only [hw]
  · exact iInf_le (fun w : BitVec 32 => if v ≤ fl w then fl w else (⊤ : EReal)) (BitVec.ofNat 32 k)

end Generic

/-- The table's numbers where they are not below the rows' numbers. -/
def tableOf (th : FVec Ideal S8x384x1 .f32) : FVec Ideal S8x384x4294967296 .f32 :=
  select (cmpf .oge (broadcastInDim S8x384x4294967296 ![0, 1, 2] bcast_S1x1x4294967296_S8x384x4294967296_0_1_2
          (broadcastInDim S1x1x4294967296 ![2] bcast_S4294967296_S1x1x4294967296_2
            (bitcastToFloat (F := Ideal) .f32 (iotaInDim S4294967296 32 0))))
        (broadcastInDim S8x384x4294967296 ![0, 1, 2] bcast_S8x384x1_S8x384x4294967296_0_1_2 th))
      (broadcastInDim S8x384x4294967296 ![2] bcast_S4294967296_S8x384x4294967296_2
        (bitcastToFloat (F := Ideal) .f32 (iotaInDim S4294967296 32 0)))
      (broadcastInDim S8x384x4294967296 ![] bcast_S_S8x384x4294967296 (id (constant S_ .f32 0x7F800000#32)))

/-- The mask of the reference, the rows' `k`-th greatest given. -/
def maskOf (X : FVec Ideal S8x384x384 .f32) (th : FVec Ideal S8x384x1 .f32) : IVec S8x384x384 1 :=
  cmpf .oge X (broadcastInDim S8x384x384 ![0, 1, 2] bcast_S8x384x1_S8x384x384_0_1_2
    (broadcastInDim S8x384x1 ![0, 1] bcast_S8x384_S8x384x1_0_1 (Host.reduce FloatOps.minimumf (tableOf th)
      (constant S_ .f32 0x7F800000#32) reducesTo_S8x384x4294967296_S8x384_d2 h_S_)))

variable (V : Valuation τ sig (Elt Ideal))

theorem mask_192 : res_main_v87 V = maskOf (res_main_v75 V) (extractStridedSlice S8x384x1 ![0, 0, 191]
    ((Host.topK S8x384x192 2 (FloatOps.cmpfTotal .gt) (res_main_v75 V) sliceFits_S8x384x384_S8x384x192).1) slices_S8x384x192_S8x384x1_0_0_191) := rfl

theorem mask_256 : res_main_v115 V = maskOf (res_main_v75 V) (extractStridedSlice S8x384x1 ![0, 0, 255]
    ((Host.topK S8x384x256 2 (FloatOps.cmpfTotal .gt) (res_main_v75 V) sliceFits_S8x384x384_S8x384x256).1) slices_S8x384x256_S8x384x1_0_0_255) := rfl

theorem mask_288 : res_main_v143 V = maskOf (res_main_v75 V) (extractStridedSlice S8x384x1 ![0, 0, 287]
    ((Host.topK S8x384x288 2 (FloatOps.cmpfTotal .gt) (res_main_v75 V) sliceFits_S8x384x384_S8x384x288).1) slices_S8x384x288_S8x384x1_0_0_287) := rfl

theorem mask_307 : res_main_v171 V = maskOf (res_main_v75 V) (extractStridedSlice S8x384x1 ![0, 0, 306]
    ((Host.topK S8x384x307 2 (FloatOps.cmpfTotal .gt) (res_main_v75 V) sliceFits_S8x384x384_S8x384x307).1) slices_S8x384x307_S8x384x1_0_0_306) := rfl

theorem compare_read (X : FVec Ideal S8x384x384 .f32) (R : FVec Ideal S8x384 .f32) (p : Fin 8) (d e : Fin 384) :
    cmpf .oge X (broadcastInDim S8x384x384 ![0, 1, 2] bcast_S8x384x1_S8x384x384_0_1_2 (broadcastInDim S8x384x1 ![0, 1] bcast_S8x384_S8x384x1_0_1 R))
      (ix3 p d e) = BitVec.ofBool (decide (R (ix2 p d) ≤ X (ix3 p d e))) := by
  pointwise

theorem table_read (th : FVec Ideal S8x384x1 .f32) (p : Fin 8) (d : Fin 384) (k : Fin 4294967296) :
    tableOf th (ix3 p d k) = if th (ix3 p d 0) ≤ fl (BitVec.ofNat 32 k) then fl (BitVec.ofNat 32 k) else (⊤ : EReal) := by
  have h : (id (constant S_ .f32 0x7F800000#32) : FVec Ideal S_ .f32) ix0 = ⊤ := word_top
  pointwise [tableOf]
  rw [h]
  rfl

theorem mask_read (X : FVec Ideal S8x384x384 .f32) (th : FVec Ideal S8x384x1 .f32) (p : Fin 8) (d e : Fin 384) :
    maskOf X th (ix3 p d e) = BitVec.ofBool (decide (atLeast (th (ix3 p d 0)) ≤ X (ix3 p d e))) := by
  have h : Host.reduce FloatOps.minimumf (tableOf th) (constant S_ .f32 0x7F800000#32) reducesTo_S8x384x4294967296_S8x384_d2 h_S_
      (ix2 p d) = atLeast (th (ix3 p d 0)) := by
    refine (fold_last min (tableOf th) _ reducesTo_S8x384x4294967296_S8x384_d2 h_S_ p d).trans ?_
    rw [← fold_table (n := 4294967296) (by norm_num)]
    simp only [table_read]
    exact congrArg (fun t => Finset.fold min t _ _) word_top
  unfold maskOf
  rw [compare_read, h]

end Cert.Proof

end
-- ==== Proof.Arrays.lean ====
/- The reference's operations over arrays left open, read at an index. -/
module

public import proofs.«01_k».proof.Proof.Folds

@[expose] public section

set_option maxRecDepth 8192

noncomputable section

namespace Cert.Proof

open Idealize.ShloMosaic Idealize.SL.Sem Cert.ReferenceIdeal Cert.ReferenceIdeal.Gen Cert.ReferenceIdeal.Value

theorem exp_last (X : FVec Ideal S8x384x1024 .f32) (R : FVec Ideal S8x384 .f32) (p : Fin 8) (d : Fin 384) (n : Fin 1024) :
    Host.exp (subf X (broadcastInDim S8x384x1024 ![0, 1, 2] bcast_S8x384x1_S8x384x1024_0_1_2 (broadcastInDim S8x384x1 ![0, 1]
      bcast_S8x384_S8x384x1_0_1 (maximumf (broadcastInDim S8x384 ![] bcast_S_S8x384 (constant S_ .f32 0xFF800000#32)) R)))) (ix3 p d n)
      = Ideal.exp ((X (ix3 p d n) : EReal) - max (Ideal.ofBits .f32 0xFF800000#32) (R (ix2 p d))) := by
  pointwise

theorem exp_mid (X : FVec Ideal S8x384x1024 .f32) (R : FVec Ideal S8x1024 .f32) (p : Fin 8) (d : Fin 384) (n : Fin 1024) :
    Host.exp (subf X (broadcastInDim S8x384x1024 ![0, 1, 2] bcast_S8x1x1024_S8x384x1024_0_1_2 (broadcastInDim S8x1x1024 ![0, 2]
      bcast_S8x1024_S8x1x1024_0_2 (maximumf (broadcastInDim S8x1024 ![] bcast_S_S8x1024 (constant S_ .f32 0xFF800000#32)) R)))) (ix3 p d n)
      = Ideal.exp ((X (ix3 p d n) : EReal) - max (Ideal.ofBits .f32 0xFF800000#32) (R (ix2 p n))) := by
  pointwise

/-- The entries kept, `⊥` in the others' places. -/
def fillOf (M : IVec S8x384x384 1) (X : FVec Ideal S8x384x384 .f32) : FVec Ideal S8x384x384 .f32 :=
  select M X (broadcastInDim S8x384x384 ![] bcast_S_S8x384x384 (constant S_ .f32 0xFF800000#32))

/-- The exponentials of the masked softmax. -/
def expOf (M : IVec S8x384x384 1) (X : FVec Ideal S8x384x384 .f32) : FVec Ideal S8x384x384 .f32 :=
  Host.exp (subf (select M X (broadcastInDim S8x384x384 ![] bcast_S_S8x384x384 (id (constant S_ .f32 0xFF800000#32))))
    (broadcastInDim S8x384x384 ![0, 1, 2] bcast_S8x384x1_S8x384x384_0_1_2 (broadcastInDim S8x384x1 ![0, 1] bcast_S8x384_S8x384x1_0_1
      (maximumf (broadcastInDim S8x384 ![] bcast_S_S8x384 (constant S_ .f32 0xFF800000#32)) (Host.reduce FloatOps.maximumf
        (fillOf M X)
        (constant S_ .f32 0xFF800000#32) reducesTo_S8x384x384_S8x384_d2 h_S_)))))

theorem exp_masked (M : IVec S8x384x384 1) (X : FVec Ideal S8x384x384 .f32) (R : FVec Ideal S8x384 .f32) (p : Fin 8) (d e : Fin 384) :
    Host.exp (subf (select M X (broadcastInDim S8x384x384 ![] bcast_S_S8x384x384 (id (constant S_ .f32 0xFF800000#32))))
    (broadcastInDim S8x384x384 ![0, 1, 2] bcast_S8x384x1_S8x384x384_0_1_2 (broadcastInDim S8x384x1 ![0, 1] bcast_S8x384_S8x384x1_0_1
      (maximumf (broadcastInDim S8x384 ![] bcast_S_S8x384 (constant S_ .f32 0xFF800000#32)) R)))) (ix3 p d e)
      = Ideal.exp (Scalar.select (M (ix3 p d e)) (X (ix3 p d e) : EReal) (Ideal.ofBits .f32 0xFF800000#32)
        - max (Ideal.ofBits .f32 0xFF800000#32) (R (ix2 p d))) := by
  have h : (id (constant S_ .f32 0xFF800000#32) : FVec Ideal S_ .f32) ix0 = Ideal.ofBits .f32 0xFF800000#32 := rfl
  pointwise
  rw [h]

theorem fill_read (M : IVec S8x384x384 1) (X : FVec Ideal S8x384x384 .f32) (p : Fin 8) (d e : Fin 384) :
    (fillOf M X (ix3 p d e) : EReal) = Scalar.select (M (ix3 p d e)) (X (ix3 p d e) : EReal) (Ideal.ofBits .f32 0xFF800000#32) := by
  pointwise [fillOf]

/-- The masked softmax of its exponentials. -/
def attentionOf (M : IVec S8x384x384 1) (E : FVec Ideal S8x384x384 .f32) : FVec Ideal S8x384x384 .f32 :=
  select M (Host.divf E (broadcastInDim S8x384x384 ![0, 1, 2] bcast_S8x384x1_S8x384x384_0_1_2 (broadcastInDim S8x384x1 ![0, 1]
      bcast_S8x384_S8x384x1_0_1 (Host.reduceAdd (select M E (broadcastInDim S8x384x384 ![] bcast_S_S8x384x384 (constant S_ .f32 0x00000000#32)))
        (constant S_ .f32 0x00000000#32) reducesTo_S8x384x384_S8x384_d2 h_S_))))
    (broadcastInDim S8x384x384 ![] bcast_S_S8x384x384 (sitofp .f32 (constantI S_ 32 0#32)))

theorem attention_read (M : IVec S8x384x384 1) (E : FVec Ideal S8x384x384 .f32) (p : Fin 8) (d e : Fin 384) :
    (attentionOf M E (ix3 p d e) : EReal) = Scalar.select (M (ix3 p d e)) (Ideal.div (E (ix3 p d e))
        (∑ j : Fin 384, Scalar.select (M (ix3 p d j)) (E (ix3 p d j) : EReal) 0)) (FloatOps.sitofp .f32 0#32 : Ideal .f32) := by
  pointwise [attentionOf]

theorem select_decide (q : Prop) [Decidable q] (x y : EReal) : Scalar.select (BitVec.ofBool (decide q)) x y = if q then x else y := by
  by_cases h : q
  · rw [decide_eq_true h, if_pos h]; rfl
  · rw [decide_eq_false h, if_neg h]; rfl

/-- The masked softmax, of reals. -/
theorem masked_softmax {X : FVec Ideal S8x384x384 .f32} {th : FVec Ideal S8x384x1 .f32} {p : Fin 8} {d : Fin 384} {f : Fin 384 → ℝ}
    (hX : ∀ e, (X (ix3 p d e) : EReal) = (f e : EReal)) (e : Fin 384) :
    (attentionOf (maskOf X th) (expOf (maskOf X th) X) (ix3 p d e) : EReal)
      = ((softOn (fun e => atLeast (th (ix3 p d 0)) ≤ (f e : EReal)) f e : ℝ) : EReal) := by
  have h0 : (FloatOps.sitofp .f32 0#32 : Ideal .f32) = (0 : EReal) := by simp [FloatOps.sitofp]
  have hM : ∀ e, maskOf X th (ix3 p d e) = BitVec.ofBool (decide (atLeast (th (ix3 p d 0)) ≤ (f e : EReal))) := fun e => by
    rw [mask_read, hX]
  have hS : ∀ e, (fillOf (maskOf X th) X (ix3 p d e) : EReal)
      = if atLeast (th (ix3 p d 0)) ≤ (f e : EReal) then (f e : EReal) else ⊥ := fun e => by
    rw [fill_read, hM, hX, select_decide, word_bot]
  obtain ⟨R, hR⟩ : ∃ R, R = Host.reduce FloatOps.maximumf (fillOf (maskOf X th) X)
    (constant S_ .f32 0xFF800000#32) reducesTo_S8x384x384_S8x384_d2 h_S_ := ⟨_, rfl⟩
  have hmx : (∃ e, atLeast (th (ix3 p d 0)) ≤ (f e : EReal))
      → ∃ m : ℝ, max (Ideal.ofBits .f32 0xFF800000#32) (R (ix2 p d)) = (m : EReal) := fun ⟨e, he⟩ => by
    rw [hR]
    refine max_last_real (fillOf (maskOf X th) X)
      reducesTo_S8x384x384_S8x384_d2 h_S_ p d (fun k => ?_) ⟨e, f e, by rw [hS, if_pos he]⟩
    rw [hS]
    split
    · exact .inr ⟨_, rfl⟩
    · exact .inl rfl
  have hE : ∀ e, (expOf (maskOf X th) X (ix3 p d e) : EReal)
      = Ideal.exp ((if atLeast (th (ix3 p d 0)) ≤ (f e : EReal) then (f e : EReal) else ⊥)
        - max (Ideal.ofBits .f32 0xFF800000#32) (R (ix2 p d))) := fun e => by
    rw [← word_bot, ← select_decide, ← hX, ← mask_read, hR]
    exact exp_masked _ _ _ p d e
  rw [attention_read]
  simp only [hE, hM, h0, select_decide]
  exact softOn_host' (fun e => atLeast (th (ix3 p d 0)) ≤ (f e : EReal)) f _ hmx e

/-- The mix of four attentions through the last layer's weights. -/
def repOf (A0 A1 A2 A3 : FVec Ideal S8x384x384 .f32) (Q : FVec Ideal S8x384x1024 .f32) (a : FVec Ideal S4 .f32)
    (w : FVec Ideal S768x384 .f32) (b : FVec Ideal S768 .f32) : FVec Ideal S8x1024x768 .f32 :=
  transpose S8x1024x768 [0, 2, 1] (shapeCast _ (addf (transpose S8x768x32x32 [0, 3, 1, 2] (Host.dotGeneral
    dot_S8x384x32x32_S768x384_S8x32x32x768_1_1_023_0_n_n none (shapeCast _ (addf (addf (addf (mulf (Host.dotGeneral
    dot_S8x384x384_S8x384x1024_S8x384x1024_2_1_1_2_0_0 none A0 Q) (broadcastInDim S8x384x1024 ![] bcast_S_S8x384x1024
    (shapeCast _ (extractStridedSlice S1 ![0] a slices_S4_S1_0) shapeCasts_S1_S_))) (mulf (Host.dotGeneral
    dot_S8x384x384_S8x384x1024_S8x384x1024_2_1_1_2_0_0 none A1 Q) (broadcastInDim S8x384x1024 ![] bcast_S_S8x384x1024
    (shapeCast _ (extractStridedSlice S1 ![1] a slices_S4_S1_1) shapeCasts_S1_S_)))) (mulf (Host.dotGeneral
    dot_S8x384x384_S8x384x1024_S8x384x1024_2_1_1_2_0_0 none A2 Q) (broadcastInDim S8x384x1024 ![] bcast_S_S8x384x1024
    (shapeCast _ (extractStridedSlice S1 ![2] a slices_S4_S1_2) shapeCasts_S1_S_)))) (mulf (Host.dotGeneral
    dot_S8x384x384_S8x384x1024_S8x384x1024_2_1_1_2_0_0 none A3 Q) (broadcastInDim S8x384x1024 ![] bcast_S_S8x384x1024
    (shapeCast _ (extractStridedSlice S1 ![3] a slices_S4_S1_3) shapeCasts_S1_S_)))) shapeCasts_S8x384x1024_S8x384x32x32) w)
    transposes_S8x32x32x768_S8x768x32x32_0_3_1_2) (broadcastInDim S8x768x32x32 ![0, 1, 2, 3]
    bcast_S1x768x1x1_S8x768x32x32_0_1_2_3 (broadcastInDim S1x768x1x1 ![1] bcast_S768_S1x768x1x1_1 b)))
    shapeCasts_S8x768x32x32_S8x768x1024) transposes_S8x768x1024_S8x1024x768_0_2_1

theorem rep_read {A0 A1 A2 A3 : FVec Ideal S8x384x384 .f32} {Q : FVec Ideal S8x384x1024 .f32} {a : FVec Ideal S4 .f32}
    {w : FVec Ideal S768x384 .f32} {b : FVec Ideal S768 .f32} {p : Fin 8} {n : Fin 1024} {o : Fin 768} {α : Fin 4 → Fin 384 → Fin 384 → ℝ}
    {q w' : Fin 384 → ℝ} {a' : Fin 4 → ℝ} {b' : ℝ} (h0 : ∀ d e, (A0 (ix3 p d e) : EReal) = (α 0 d e : EReal))
    (h1 : ∀ d e, (A1 (ix3 p d e) : EReal) = (α 1 d e : EReal)) (h2 : ∀ d e, (A2 (ix3 p d e) : EReal) = (α 2 d e : EReal))
    (h3 : ∀ d e, (A3 (ix3 p d e) : EReal) = (α 3 d e : EReal))
    (hQ : ∀ e, (Q (ix3 p e n) : EReal) = (q e : EReal)) (ha : ∀ j, (a (ix1 j) : EReal) = (a' j : EReal))
    (hw : ∀ d, (w (ix2 o d) : EReal) = (w' d : EReal)) (hb : (b (ix1 o) : EReal) = (b' : EReal)) :
    (repOf A0 A1 A2 A3 Q a w b (ix3 p n o) : EReal) = ((∑ d, w' d * ∑ j, a' j * ∑ e, α j d e * q e + b' : ℝ) : EReal) := by
  pointwise [repOf]
  simp only [h0, h1, h2, h3, hQ, ha, hw, hb, ← EReal.coe_mul, coe_sum, ← EReal.coe_add]
  congr 2
  refine Finset.sum_congr rfl fun d _ => ?_
  rw [Fin.sum_univ_four]
  ring

/-- The means over the channels. -/
def meanOf (X : FVec Ideal S8x1024x768 .f32) : FVec Ideal S8x1024x1 .f32 :=
  Host.divf (broadcastInDim S8x1024x1 ![0, 1] bcast_S8x1024_S8x1024x1_0_1 (Host.reduceAdd X (constant S_ .f32 0x00000000#32)
    reducesTo_S8x1024x768_S8x1024_d2 h_S_)) (broadcastInDim S8x1024x1 ![] bcast_S_S8x1024x1 (constant S_ .f32 0x44400000#32))

/-- The last layer norm, before its transpose. -/
def normOf (X : FVec Ideal S8x1024x768 .f32) (g b : FVec Ideal S768 .f32) : FVec Ideal S8x1024x768 .f32 :=
  addf (mulf (Host.divf (subf X (broadcastInDim S8x1024x768 ![0, 1, 2] bcast_S8x1024x1_S8x1024x768_0_1_2 (meanOf X)))
      (broadcastInDim S8x1024x768 ![0, 1, 2] bcast_S8x1024x1_S8x1024x768_0_1_2 (Host.sqrt (addf (Host.divf (broadcastInDim S8x1024x1 ![0, 1]
        bcast_S8x1024_S8x1024x1_0_1 (Host.reduceAdd (mulf
          (subf X (broadcastInDim S8x1024x768 ![0, 1, 2] bcast_S8x1024x1_S8x1024x768_0_1_2 (meanOf X)))
          (subf X (broadcastInDim S8x1024x768 ![0, 1, 2] bcast_S8x1024x1_S8x1024x768_0_1_2 (meanOf X)))) (constant S_ .f32 0x00000000#32)
          reducesTo_S8x1024x768_S8x1024_d2 h_S_)) (broadcastInDim S8x1024x1 ![] bcast_S_S8x1024x1 (constant S_ .f32 0x44400000#32)))
        (broadcastInDim S8x1024x1 ![] bcast_S_S8x1024x1 (constant S_ .f32 0x3727C5AC#32))))))
      (broadcastInDim S8x1024x768 ![0, 1, 2] bcast_S1x1x768_S8x1024x768_0_1_2 (broadcastInDim S1x1x768 ![2] bcast_S768_S1x1x768_2 g)))
    (broadcastInDim S8x1024x768 ![0, 1, 2] bcast_S1x1x768_S8x1024x768_0_1_2 (broadcastInDim S1x1x768 ![2] bcast_S768_S1x1x768_2 b))

theorem norm_read {X : FVec Ideal S8x1024x768 .f32} {g b : FVec Ideal S768 .f32} {p : Fin 8} {n : Fin 1024} {f : Fin 768 → ℝ}
    (hX : ∀ o, (X (ix3 p n o) : EReal) = (f o : EReal)) (o : Fin 768) :
    (transpose S8x768x1024 [0, 2, 1] (normOf X g b) transposes_S8x1024x768_S8x768x1024_0_2_1 (ix3 p o n) : EReal)
      = (unit f o : EReal) * g (ix1 o) + b (ix1 o) := by
  pointwise [normOf, meanOf]
  simp only [word_768, word_eps, hX]
  exact congrArg (fun x : EReal => x * g (ix1 o) + b (ix1 o)) (unit_sqrt (by norm_num) f o)

end Cert.Proof

end
-- ==== Proof.Reference.lean ====
/- The reference's values, over the reals. -/
module

public import proofs.«01_k».proof.Proof.Arrays
public import proofs.«01_k».proof.Proof.Args
public import proofs.«01_k».proof.Proof.Spec

@[expose] public section

set_option maxRecDepth 8192

noncomputable section

namespace Cert.Proof

open Idealize.ShloMosaic Idealize.SL.Sem Cert.ReferenceIdeal Cert.ReferenceIdeal.Gen Cert.ReferenceIdeal.Value

variable (V : Valuation τ sig (Elt Ideal))

/-- The launch's arguments. -/
def referenceArgs : Args where
  x1 := V (Proc.devRef .tc main_arg0)
  x2 := V (Proc.devRef .tc main_arg1)
  g1 := V (Proc.devRef .tc main_arg2)
  b1 := V (Proc.devRef .tc main_arg3)
  w := V (Proc.devRef .tc main_arg4)
  b := V (Proc.devRef .tc main_arg5)
  g2 := V (Proc.devRef .tc main_arg6)
  b2 := V (Proc.devRef .tc main_arg7)
  a := V (Proc.devRef .tc main_arg8)

/-- The arguments of batch entry `p`. -/
abbrev inputs (p : Fin 8) : Inputs := (referenceArgs V).at p

theorem IsKth.congr {ι : Type} [Fintype ι] {f : ι → EReal} {k : ℕ} {v w : EReal} (h : IsKth f k v) (e : w = v) : IsKth f k w := e ▸ h

theorem slice_192 (x : FVec Ideal S8x384x192 .f32) (p : Fin 8) (d : Fin 384) :
    extractStridedSlice S8x384x1 ![0, 0, 191] x slices_S8x384x192_S8x384x1_0_0_191 (ix3 p d 0) = x (ix3 p d 191) := by
  pointwise

theorem slice_256 (x : FVec Ideal S8x384x256 .f32) (p : Fin 8) (d : Fin 384) :
    extractStridedSlice S8x384x1 ![0, 0, 255] x slices_S8x384x256_S8x384x1_0_0_255 (ix3 p d 0) = x (ix3 p d 255) := by
  pointwise

theorem slice_288 (x : FVec Ideal S8x384x288 .f32) (p : Fin 8) (d : Fin 384) :
    extractStridedSlice S8x384x1 ![0, 0, 287] x slices_S8x384x288_S8x384x1_0_0_287 (ix3 p d 0) = x (ix3 p d 287) := by
  pointwise

theorem slice_307 (x : FVec Ideal S8x384x307 .f32) (p : Fin 8) (d : Fin 384) :
    extractStridedSlice S8x384x1 ![0, 0, 306] x slices_S8x384x307_S8x384x1_0_0_306 (ix3 p d 0) = x (ix3 p d 306) := by
  pointwise

theorem exps_192 : res_main_v96 V = expOf (res_main_v87 V) (res_main_v75 V) := rfl
theorem exps_256 : res_main_v124 V = expOf (res_main_v115 V) (res_main_v75 V) := rfl
theorem exps_288 : res_main_v152 V = expOf (res_main_v143 V) (res_main_v75 V) := rfl
theorem exps_307 : res_main_v180 V = expOf (res_main_v171 V) (res_main_v75 V) := rfl

variable {V} (hG : (referenceArgs V).Good)
include hG

theorem ref_x1 (p : Fin 8) (n : Fin 1024) (c : Fin 384) : (res_main_v0 V (ix3 p n c) : EReal) = ((inputs V p).x1 n c : EReal) := by
  refine Eq.trans ?_ (hG.x1 _)
  pointwise [res_main_v0]
  rfl

theorem ref_x2 (p : Fin 8) (n : Fin 1024) (c : Fin 384) : (res_main_v1 V (ix3 p n c) : EReal) = ((inputs V p).x2 n c : EReal) := by
  refine Eq.trans ?_ (hG.x2 _)
  pointwise [res_main_v1]
  rfl

theorem ref_g1 (p : Fin 8) (c : Fin 384) : (V (Proc.devRef .tc main_arg2) (ix1 c) : EReal) = ((inputs V p).g1 c : EReal) := hG.g1 _
theorem ref_b1 (p : Fin 8) (c : Fin 384) : (V (Proc.devRef .tc main_arg3) (ix1 c) : EReal) = ((inputs V p).b1 c : EReal) := hG.b1 _

theorem ref_n2 (p : Fin 8) (n : Fin 1024) (c : Fin 384) : (res_main_v49 V (ix3 p n c) : EReal) = ((inputs V p).n2 n c : EReal) := by
  pointwise [res_main_v49, res_main_v31, res_main_v29]
  simp only [word_384, word_eps, ref_x2 hG, ref_g1 hG p, ref_b1 hG p]
  exact norm_of_unit (unit_sqrt (by norm_num) _ _) _ _

theorem ref_n2t (p : Fin 8) (n : Fin 1024) (c : Fin 384) : (res_main_v50 V (ix3 p c n) : EReal) = ((inputs V p).n2 n c : EReal) := by
  pointwise [res_main_v50]
  exact ref_n2 hG p n c

theorem ref_exp_tokens (p : Fin 8) (d : Fin 384) : ∃ m : ℝ, ∀ n : Fin 1024,
    (res_main_v59 V (ix3 p d n) : EReal) = Ideal.exp (((inputs V p).n2 n d : EReal) - (m : EReal)) := by
  obtain ⟨m, hm⟩ := max_last_real (res_main_v50 V) reducesTo_S8x384x1024_S8x384_d2 h_S_ p d (fun n => .inr ⟨_, ref_n2t hG p n d⟩)
    ⟨0, _, ref_n2t hG p 0 d⟩
  refine ⟨m, fun n => ?_⟩
  rw [← hm, ← ref_n2t hG p n d]
  exact exp_last _ _ p d n

theorem ref_exp_channels (p : Fin 8) (n : Fin 1024) : ∃ m : ℝ, ∀ d : Fin 384,
    (res_main_v70 V (ix3 p d n) : EReal) = Ideal.exp (((inputs V p).n2 n d : EReal) - (m : EReal)) := by
  obtain ⟨m, hm⟩ := max_mid_real (res_main_v50 V) reducesTo_S8x384x1024_S8x1024_d1 h_S_ p n (fun d => .inr ⟨_, ref_n2t hG p n d⟩)
    ⟨0, _, ref_n2t hG p n 0⟩
  refine ⟨m, fun d => ?_⟩
  rw [← hm, ← ref_n2t hG p n d]
  exact exp_mid _ _ p d n

theorem ref_query (p : Fin 8) (n : Fin 1024) (d : Fin 384) : (res_main_v74 V (ix3 p d n) : EReal) = ((inputs V p).query n d : EReal) := by
  obtain ⟨m, hm⟩ := ref_exp_channels hG p n
  pointwise [res_main_v74]
  simp only [hm]
  exact soft_sub ((inputs V p).n2 n) m d

theorem ref_context (p : Fin 8) (d e : Fin 384) : (res_main_v75 V (ix3 p d e) : EReal) = ((inputs V p).context d e : EReal) := by
  obtain ⟨m, hm⟩ := ref_exp_tokens hG p d
  pointwise [res_main_v75, res_main_v5, res_main_v7]
  simp only [hm, word_384, word_eps, ref_x1 hG, ref_g1 hG p, ref_b1 hG p]
  refine @Eq.trans EReal _ (∑ n, ((inputs V p).key d n : EReal) * ((inputs V p).n1 n e : EReal)) _ (Finset.sum_congr rfl fun n _ =>
    congrArg₂ (· * ·) (soft_sub (fun n => (inputs V p).n2 n d) m n)
      (norm_of_unit (unit_sqrt (by norm_num) ((inputs V p).x1 n) e) (inputs V p).g1 (inputs V p).b1)) ?_
  simp only [← EReal.coe_mul, coe_sum]
  rfl

omit hG

/-- The rows' `k`-th greatest entries, as the reference takes them. -/
def thresholds (V : Valuation τ sig (Elt Ideal)) : Fin 4 → FVec Ideal S8x384x1 .f32 :=
  ![extractStridedSlice S8x384x1 ![0, 0, 191] ((Host.topK S8x384x192 2 (FloatOps.cmpfTotal .gt) (res_main_v75 V)
      sliceFits_S8x384x384_S8x384x192).1) slices_S8x384x192_S8x384x1_0_0_191,
    extractStridedSlice S8x384x1 ![0, 0, 255] ((Host.topK S8x384x256 2 (FloatOps.cmpfTotal .gt) (res_main_v75 V)
      sliceFits_S8x384x384_S8x384x256).1) slices_S8x384x256_S8x384x1_0_0_255,
    extractStridedSlice S8x384x1 ![0, 0, 287] ((Host.topK S8x384x288 2 (FloatOps.cmpfTotal .gt) (res_main_v75 V)
      sliceFits_S8x384x384_S8x384x288).1) slices_S8x384x288_S8x384x1_0_0_287,
    extractStridedSlice S8x384x1 ![0, 0, 306] ((Host.topK S8x384x307 2 (FloatOps.cmpfTotal .gt) (res_main_v75 V)
      sliceFits_S8x384x384_S8x384x307).1) slices_S8x384x307_S8x384x1_0_0_306]

def greatest (V : Valuation τ sig (Elt Ideal)) (p : Fin 8) (j : Fin 4) (d : Fin 384) : EReal := thresholds V j (ix3 p d 0)

include hG

theorem ref_greatest (p : Fin 8) : (inputs V p).Greatest (greatest V p) := by
  intro j d
  have hf : (fun e => ((inputs V p).context d e : EReal)) = fun e => (res_main_v75 V (ix3 p d e) : EReal) :=
    funext fun e => (ref_context hG p d e).symm
  rw [hf]
  fin_cases j
  · have h := isKth_topK (n := 384) (k := 192) (res_main_v75 V) sliceFits_S8x384x384_S8x384x192 p d 191 (by decide)
    exact h.congr (slice_192 (Host.topK S8x384x192 2 (FloatOps.cmpfTotal .gt) (res_main_v75 V) sliceFits_S8x384x384_S8x384x192).1 p d)
  · have h := isKth_topK (n := 384) (k := 256) (res_main_v75 V) sliceFits_S8x384x384_S8x384x256 p d 255 (by decide)
    exact h.congr (slice_256 (Host.topK S8x384x256 2 (FloatOps.cmpfTotal .gt) (res_main_v75 V) sliceFits_S8x384x384_S8x384x256).1 p d)
  · have h := isKth_topK (n := 384) (k := 288) (res_main_v75 V) sliceFits_S8x384x384_S8x384x288 p d 287 (by decide)
    exact h.congr (slice_288 (Host.topK S8x384x288 2 (FloatOps.cmpfTotal .gt) (res_main_v75 V) sliceFits_S8x384x384_S8x384x288).1 p d)
  · have h := isKth_topK (n := 384) (k := 307) (res_main_v75 V) sliceFits_S8x384x384_S8x384x307 p d 306 (by decide)
    exact h.congr (slice_307 (Host.topK S8x384x307 2 (FloatOps.cmpfTotal .gt) (res_main_v75 V) sliceFits_S8x384x384_S8x384x307).1 p d)

omit hG

/-- The four attentions. -/
def attentions (V : Valuation τ sig (Elt Ideal)) (j : Fin 4) : FVec Ideal S8x384x384 .f32 :=
  attentionOf (maskOf (res_main_v75 V) (thresholds V j)) (expOf (maskOf (res_main_v75 V) (thresholds V j)) (res_main_v75 V))

theorem attentions_192 : attentionOf (res_main_v87 V) (res_main_v96 V) = attentions V 0 := by rw [exps_192, mask_192]; rfl
theorem attentions_256 : attentionOf (res_main_v115 V) (res_main_v124 V) = attentions V 1 := by rw [exps_256, mask_256]; rfl
theorem attentions_288 : attentionOf (res_main_v143 V) (res_main_v152 V) = attentions V 2 := by rw [exps_288, mask_288]; rfl
theorem attentions_307 : attentionOf (res_main_v171 V) (res_main_v180 V) = attentions V 3 := by rw [exps_307, mask_307]; rfl

theorem rep_printed : res_main_v214 V = repOf (attentionOf (res_main_v87 V) (res_main_v96 V)) (attentionOf (res_main_v115 V) (res_main_v124 V))
    (attentionOf (res_main_v143 V) (res_main_v152 V)) (attentionOf (res_main_v171 V) (res_main_v180 V)) (res_main_v74 V)
    (V (Proc.devRef .tc main_arg8)) (V (Proc.devRef .tc main_arg4)) (V (Proc.devRef .tc main_arg5)) := by
  unfold res_main_v214 repOf attentionOf
  rfl

include hG

theorem ref_rep (p : Fin 8) (n : Fin 1024) (o : Fin 768) :
    (res_main_v214 V (ix3 p n o) : EReal) = ((inputs V p).rep (greatest V p) n o : EReal) := by
  rw [rep_printed, attentions_192, attentions_256, attentions_288, attentions_307]
  have h : ∀ j d e, (attentions V j (ix3 p d e) : EReal) = ((inputs V p).attention (greatest V p) j d e : EReal) := fun j d e =>
    masked_softmax (th := thresholds V j) (ref_context hG p d) e
  exact rep_read (h 0) (h 1) (h 2) (h 3) (fun e => ref_query hG p n e) (fun j => hG.a _) (fun d => hG.w _) (hG.b _)

/-- The reference's result. -/
theorem ref_result : transpose S8x768x1024 [0, 2, 1] (normOf (res_main_v214 V) (V (Proc.devRef .tc main_arg6)) (V (Proc.devRef .tc main_arg7)))
    transposes_S8x1024x768_S8x768x1024_0_2_1 = (referenceArgs V).result (greatest V) := by
  funext i
  have hi : i = ix3 (i 0) (i 1) (i 2) := eq_ix3 i
  rw [hi]
  exact norm_read (fun o => ref_rep hG (i 0) (i 2) o) (i 1)

end Cert.Proof

end
-- ==== Proof.lean ====
/- The claims: the three programs' frames, the ideal kernel as the kernel's idealisation, and the ideal kernel's result as the
   reference's, for finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite_and_bounded
public import proofs.«01_k».proof.Proof.Gen.ReferenceIdeal
public import proofs.«01_k».proof.Proof.Precondition
public import proofs.«01_k».proof.Proof.Whole
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference runs from every memory: its arguments end unchanged, and it declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- From arguments that agree, finite and bounded, both programs end with the arguments' result. -/
theorem algebraic : Cert.algebraic_KernelIdeal_ReferenceIdeal_pre_finite_and_bounded := by
  intro m g m' g' hpre hargs
  have hG : ∀ c : Dev Cert.KernelIdeal.nD, (kernelArgs m c).Good := fun c => good_of_pre _ (hpre c)
  have hA : ∀ c : Dev Cert.KernelIdeal.nD, referenceArgs (StableHlo.launchContents m' c) = kernelArgs m c := fun c => by
    obtain ⟨h0, h1, h2, h3, h4, h5, h6, h7, h8⟩ := hargs c
    unfold referenceArgs kernelArgs
    rw [Args.mk.injEq]
    exact ⟨h0, h1, h2, h3, h4, h5, h6, h7, h8⟩
  have hR : ∀ c : Dev Cert.KernelIdeal.nD, (referenceArgs (StableHlo.launchContents m' c)).Good := fun c => (hA c).symm ▸ hG c
  refine ⟨fun c => (kernelArgs m c).result (greatest (StableHlo.launchContents m' c)), ?_, ?_⟩
  · refine (θ_run Cert.KernelIdeal.defs _ _).mono (fun r h c => ⟨(h c).1.trans ?_, (h c).2⟩)
      (Cert.KernelIdeal.Value.run_blocks (F := Ideal) m g)
    refine final m c (hG c) _ fun p => ?_
    rw [← hA c]
    exact ref_greatest (hR c) p
  · refine (θ_run Cert.ReferenceIdeal.defs _ _).mono (fun r h c => ⟨(h c).1.trans ?_, (h c).2⟩)
      (Cert.ReferenceIdeal.Value.run (F := Ideal) m' g')
    exact (ref_result (hR c)).trans (congrArg (fun A : Args => A.result (greatest (StableHlo.launchContents m' c))) (hA c))

theorem claim : Cert.Claim :=
  ⟨Cert.Kernel.Gen.facts, Cert.KernelIdeal.Gen.facts, Cert.ReferenceIdeal.Gen.facts, Cert.Pre_finite_and_bounded.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
